-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_points_scales [hPre_finite_points_scales : Cert.Pre_finite_points_scales.Facts] (m : (ℓ : Loc Cert.KernelIdeal.nD Cert.KernelIdeal.τ Cert.KernelIdeal.sig) → Buf (Elt Ideal) ℓ) : Prop :=
  ∀ c : Dev Cert.KernelIdeal.nD,
    (Cert.Pre_finite_points_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_points_scales [hPre_finite_points_scales : Cert.Pre_finite_points_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_points_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_points_scales [hKernelIdeal : Cert.KernelIdeal.Facts] [hPre_finite_points_scales : Cert.Pre_finite_points_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_points_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_points_scales [hReferenceIdeal : Cert.ReferenceIdeal.Facts] [hPre_finite_points_scales : Cert.Pre_finite_points_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_points_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite_points_scales [hKernelIdeal : Cert.KernelIdeal.Facts] [hReferenceIdeal : Cert.ReferenceIdeal.Facts] [hPre_finite_points_scales : Cert.Pre_finite_points_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_points_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_points_scales : Cert.Pre_finite_points_scales.Facts),
    quiescent_Kernel (hKernel := hKernel)
    ∧ quiescent_KernelIdeal (hKernelIdeal := hKernelIdeal)
    ∧ quiescent_KernelIdeal_pre_finite_points_scales (hKernelIdeal := hKernelIdeal) (hPre_finite_points_scales := hPre_finite_points_scales)
    ∧ quiescent_ReferenceIdeal (hReferenceIdeal := hReferenceIdeal)
    ∧ quiescent_ReferenceIdeal_pre_finite_points_scales (hReferenceIdeal := hReferenceIdeal) (hPre_finite_points_scales := hPre_finite_points_scales)
    ∧ preserves_Kernel_KernelIdeal
    ∧ algebraic_KernelIdeal_ReferenceIdeal_pre_finite_points_scales (hKernelIdeal := hKernelIdeal) (hReferenceIdeal := hReferenceIdeal) (hPre_finite_points_scales := hPre_finite_points_scales)
-- ==== Pre_finite_points_scales.lean ====
abbrev S8x4096x3 : Shape := ⟨3, ![8, 4096, 3]⟩
abbrev S8x1024x3 : Shape := ⟨3, ![8, 1024, 3]⟩
abbrev S8x128x4096 : Shape := ⟨3, ![8, 128, 4096]⟩
abbrev S8x256x1024 : Shape := ⟨3, ![8, 256, 1024]⟩
abbrev S256x384 : Shape := ⟨2, ![256, 384]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8x1024x3 : S_.BroadcastsInDim S8x1024x3 (![] : Fin 0 → Fin S8x1024x3.rank)
  reducesTo_S8x1024x3_S_d0_1_2 : S8x1024x3.ReducesTo [0, 1, 2] S_
  bcast_S_S256 : S_.BroadcastsInDim S256 (![] : Fin 0 → Fin S256.rank)
  reducesTo_S256_S_d0 : S256.ReducesTo [0] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8x4096x3 .f32) (main_arg1 : FVec F S8x1024x3 .f32) (main_arg2 : FVec F S8x128x4096 .f32) (main_arg3 : FVec F S8x256x1024 .f32) (main_arg4 : FVec F S256x384 .f32) (main_arg5 : FVec F S256 .f32) (main_arg6 : FVec F S256 .f32) (main_arg7 : FVec F S256 .f32) (main_arg8 : FVec F S128x256 .f32) (main_arg9 : FVec F S128 .f32) (main_arg10 : FVec F S128 .f32) (main_arg11 : FVec F S128 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x1024x3 .f32 := Host.absf main_arg1
  let main_cst_0 : FVec F S_ .f32 := constant S_ .f32 0x7F800000#32
  let main_v5 : FVec F S8x1024x3 .f32 := broadcastInDim S8x1024x3 ![] bcast_S_S8x1024x3 main_cst_0
  let main_v6 : IVec S8x1024x3 1 := cmpf .olt main_v4 main_v5
  let main_c_1 : IVec S_ 1 := constantI S_ 1 1#1
  let main_v7 : IVec S_ 1 := (fun x v => Host.reduce IntOp.andi x v reducesTo_S8x1024x3_S_d0_1_2 h_S_) main_v6 main_c_1
  let main_v8 : IVec S_ 1 := andi main_v3 main_v7
  let main_v9 : FVec F S256 .f32 := Host.absf main_arg6
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128 .f32 := Host.absf main_arg10
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8x4096x3 : Shape := ⟨3, ![8, 4096, 3]⟩
abbrev S8x1024x3 : Shape := ⟨3, ![8, 1024, 3]⟩
abbrev S8x128x4096 : Shape := ⟨3, ![8, 128, 4096]⟩
abbrev S8x256x1024 : Shape := ⟨3, ![8, 256, 1024]⟩
abbrev S256x384 : Shape := ⟨2, ![256, 384]⟩
abbrev S256 : Shape := ⟨1, ![256]⟩
abbrev S128x256 : Shape := ⟨2, ![128, 256]⟩
abbrev S128 : Shape := ⟨1, ![128]⟩
abbrev S8x3x1024 : Shape := ⟨3, ![8, 3, 1024]⟩
abbrev S_ : Shape := ⟨0, ![]⟩
abbrev S8x4096 : Shape := ⟨2, ![8, 4096]⟩
abbrev S8x4096x1 : Shape := ⟨3, ![8, 4096, 1]⟩
abbrev S8x1024 : Shape := ⟨2, ![8, 1024]⟩
abbrev S8x1x1024 : Shape := ⟨3, ![8, 1, 1024]⟩
abbrev S1x256 : Shape := ⟨2, ![1, 256]⟩
abbrev S8x4096x256 : Shape := ⟨3, ![8, 4096, 256]⟩
abbrev S1x2048x3 : Shape := ⟨3, ![1, 2048, 3]⟩
abbrev S1x3x1024 : Shape := ⟨3, ![1, 3, 1024]⟩
abbrev S1x2048x1 : Shape := ⟨3, ![1, 2048, 1]⟩
abbrev S1x1x1024 : Shape := ⟨3, ![1, 1, 1024]⟩
abbrev S1x128x2048 : Shape := ⟨3, ![1, 128, 2048]⟩
abbrev S1x256x1024 : Shape := ⟨3, ![1, 256, 1024]⟩
abbrev S1x2048x256 : Shape := ⟨3, ![1, 2048, 256]⟩
abbrev S2048x3 : Shape := ⟨2, ![2048, 3]⟩
abbrev S3x1024 : Shape := ⟨2, ![3, 1024]⟩
abbrev S2048x1 : Shape := ⟨2, ![2048, 1]⟩
abbrev S1x1024 : Shape := ⟨2, ![1, 1024]⟩
abbrev S2048x1024 : Shape := ⟨2, ![2048, 1024]⟩
abbrev S2048 : Shape := ⟨1, ![2048]⟩
abbrev S256x1024 : Shape := ⟨2, ![256, 1024]⟩
abbrev S2048x256 : Shape := ⟨2, ![2048, 256]⟩
abbrev S256x256 : Shape := ⟨2, ![256, 256]⟩
abbrev S128x2048 : Shape := ⟨2, ![128, 2048]⟩
abbrev S256x128 : Shape := ⟨2, ![256, 128]⟩
abbrev S1x128 : Shape := ⟨2, ![1, 128]⟩
abbrev S8x4096x128 : Shape := ⟨3, ![8, 4096, 128]⟩
abbrev S1x2048x128 : Shape := ⟨3, ![1, 2048, 128]⟩
abbrev S2048x128 : Shape := ⟨2, ![2048, 128]⟩

abbrev nBuf : Space → Nat
  | .hbm => 34
  | .vmem => 38
  | .smem => 0
  | _ => 0

abbrev bufTy : (tb : Table) → Fin (tcTables nBuf tb) → BufTy
  | .hbm, ⟨0, _⟩ => ⟨S8x4096x3, .f32⟩
  | .hbm, ⟨1, _⟩ => ⟨S8x1024x3, .f32⟩
  | .hbm, ⟨2, _⟩ => ⟨S8x128x4096, .f32⟩
  | .hbm, ⟨3, _⟩ => ⟨S8x256x1024, .f32⟩
  | .hbm, ⟨4, _⟩ => ⟨S256x384, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S128x256, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S8x3x1024, .f32⟩
  | .hbm, ⟨13, _⟩ => ⟨S8x4096x3, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S8x1024x3, .f32⟩
  | .hbm, ⟨18, _⟩ => ⟨S_, .f32⟩
  | .hbm, ⟨19, _⟩ => ⟨S8x1024, .f32⟩
  | .hbm, ⟨20, _⟩ => ⟨S8x1x1024, .f32⟩
  | .hbm, ⟨21, _⟩ => ⟨S1x256, .f32⟩
  | .hbm, ⟨22, _⟩ => ⟨S8x4096x256, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S1x128, .f32⟩
  | .hbm, ⟨28, _⟩ => ⟨S8x4096x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S8x128x4096, .f32⟩
  | .local _ .vmem, ⟨0, _⟩ => ⟨S1x2048x3, .f32⟩
  | .local _ .vmem, ⟨1, _⟩ => ⟨S1x2048x3, .f32⟩
  | .local _ .vmem, ⟨2, _⟩ => ⟨S1x3x1024, .f32⟩
  | .local _ .vmem, ⟨3, _⟩ => ⟨S1x3x1024, .f32⟩
  | .local _ .vmem, ⟨4, _⟩ => ⟨S1x2048x1, .f32⟩
  | .local _ .vmem, ⟨5, _⟩ => ⟨S1x2048x1, .f32⟩
  | .local _ .vmem, ⟨6, _⟩ => ⟨S1x1x1024, .f32⟩
  | .local _ .vmem, ⟨7, _⟩ => ⟨S1x1x1024, .f32⟩
  | .local _ .vmem, ⟨8, _⟩ => ⟨S1x128x2048, .f32⟩
  | .local _ .vmem, ⟨9, _⟩ => ⟨S1x128x2048, .f32⟩
  | .local _ .vmem, ⟨10, _⟩ => ⟨S1x256x1024, .f32⟩
  | .local _ .vmem, ⟨11, _⟩ => ⟨S1x256x1024, .f32⟩
  | .local _ .vmem, ⟨12, _⟩ => ⟨S256x384, .f32⟩
  | .local _ .vmem, ⟨13, _⟩ => ⟨S1x256, .f32⟩
  | .local _ .vmem, ⟨14, _⟩ => ⟨S1x2048x256, .f32⟩
  | .local _ .vmem, ⟨15, _⟩ => ⟨S1x2048x256, .f32⟩
  | .local _ .vmem, ⟨16, _⟩ => ⟨S1x256, .f32⟩
  | .local _ .vmem, ⟨17, _⟩ => ⟨S1x256, .f32⟩
  | .local _ .vmem, ⟨18, _⟩ => ⟨S1x2048x256, .f32⟩
  | .local _ .vmem, ⟨19, _⟩ => ⟨S1x2048x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S128x256, .f32⟩
  | .local _ .vmem, ⟨25, _⟩ => ⟨S1x128, .f32⟩
  | .local _ .vmem, ⟨26, _⟩ => ⟨S1x2048x128, .f32⟩
  | .local _ .vmem, ⟨27, _⟩ => ⟨S1x2048x128, .f32⟩
  | .local _ .vmem, ⟨28, _⟩ => ⟨S1x128, .f32⟩
  | .local _ .vmem, ⟨29, _⟩ => ⟨S1x128, .f32⟩
  | .local _ .vmem, ⟨30, _⟩ => ⟨S1x2048x128, .f32⟩
  | .local _ .vmem, ⟨31, _⟩ => ⟨S1x2048x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128x2048, .f32⟩
  | .local _ .vmem, ⟨37, _⟩ => ⟨S1x128x2048, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12_0 : Ref sig .tc := ⟨.hbm, 28, rfl⟩
abbrev main_v12_1 : Ref sig .tc := ⟨.hbm, 29, rfl⟩
abbrev main_v12_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg9_0 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg5_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem7_1 : DmaSem sig := 27
abbrev cc1_sem8_0 : DmaSem sig := 28
abbrev cc1_sem9_0 : DmaSem sig := 29
abbrev cc2_sem0_0 : DmaSem sig := 30
abbrev cc2_sem0_1 : DmaSem sig := 31
abbrev cc2_sem1_0 : DmaSem sig := 32
abbrev cc2_sem2_0 : DmaSem sig := 33
abbrev cc2_sem3_0 : DmaSem sig := 34
abbrev cc2_sem4_0 : DmaSem sig := 35
abbrev cc2_sem5_0 : DmaSem sig := 36
abbrev cc2_sem5_1 : DmaSem sig := 37

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S256x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev grid2 : Pipeline.Grid := ⟨2, ![8, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x128x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== ReferenceIdeal.lean ====
abbrev S8x4096x3 : Shape := ⟨3, ![8, 4096, 3]⟩
abbrev S8x1024x3 : Shape := ⟨3, ![8, 1024, 3]⟩
abbrev S8x128x4096 : Shape := ⟨3, ![8, 128, 4096]⟩
abbrev S8x256x1024 : Shape := ⟨3, ![8, 256, 1024]⟩
abbrev S256x384 : Shape := ⟨2, ![256, 384]⟩
abbrev S256 : Shape := ⟨1, ![256]⟩
abbrev S128x256 : Shape := ⟨2, ![128, 256]⟩
abbrev S128 : Shape := ⟨1, ![128]⟩
abbrev S_ : Shape := ⟨0, ![]⟩
abbrev S8x4096 : Shape := ⟨2, ![8, 4096]⟩
abbrev S8x1024 : Shape := ⟨2, ![8, 1024]⟩
abbrev S8x4096x1024 : Shape := ⟨3, ![8, 4096, 1024]⟩
abbrev S8x4096x1 : Shape := ⟨3, ![8, 4096, 1]⟩
abbrev S8x1x1024 : Shape := ⟨3, ![8, 1, 1024]⟩
abbrev S8x1x12288 : Shape := ⟨3, ![8, 1, 12288]⟩
abbrev S8x256x12288 : Shape := ⟨3, ![8, 256, 12288]⟩
abbrev S8x256x12288x1 : Shape := ⟨4, ![8, 256, 12288, 1]⟩
abbrev S1 : Shape := ⟨1, ![1]⟩
abbrev S1x1x1x1 : Shape := ⟨4, ![1, 1, 1, 1]⟩
abbrev S8x256x4096x3 : Shape := ⟨4, ![8, 256, 4096, 3]⟩
abbrev S8x1x4096x3 : Shape := ⟨4, ![8, 1, 4096, 3]⟩
abbrev S8x256x4096 : Shape := ⟨3, ![8, 256, 4096]⟩
abbrev S8x384x4096 : Shape := ⟨3, ![8, 384, 4096]⟩
abbrev S8x4096x256 : Shape := ⟨3, ![8, 4096, 256]⟩
abbrev S1x256x1 : Shape := ⟨3, ![1, 256, 1]⟩
abbrev S8x4096x128 : Shape := ⟨3, ![8, 4096, 128]⟩
abbrev S1x128x1 : Shape := ⟨3, ![1, 128, 1]⟩

abbrev nBuf : Space → Nat
  | .hbm => 178
  | .vmem => 0
  | .smem => 0
  | _ => 0

abbrev hbmTy0_0 (i : Nat) : BufTy := match i % 128 with
  | 0 => ⟨S8x4096x3, .f32⟩
  | 1 => ⟨S8x1024x3, .f32⟩
  | 2 => ⟨S8x128x4096, .f32⟩
  | 3 => ⟨S8x256x1024, .f32⟩
  | 4 => ⟨S256x384, .f32⟩
  | 5 => ⟨S256, .f32⟩
  | 6 => ⟨S256, .f32⟩
  | 7 => ⟨S256, .f32⟩
  | 8 => ⟨S128x256, .f32⟩
  | 9 => ⟨S128, .f32⟩
  | 10 => ⟨S128, .f32⟩
  | 11 => ⟨S128, .f32⟩
  | 12 => ⟨S8x4096x3, .f32⟩
  | 13 => ⟨S_, .f32⟩
  | 14 => ⟨S8x4096, .f32⟩
  | 15 => ⟨S8x1024x3, .f32⟩
  | 16 => ⟨S_, .f32⟩
  | 17 => ⟨S8x1024, .f32⟩
  | 18 => ⟨S8x4096x1024, .f32⟩
  | 19 => ⟨S8x4096x1, .f32⟩
  | 20 => ⟨S8x1x1024, .f32⟩
  | 21 => ⟨S8x4096x1024, .f32⟩
  | 22 => ⟨S8x4096x1024, .f32⟩
  | 23 => ⟨S8x4096x1024, .f32⟩
  | 24 => ⟨S_, .f32⟩
  | 25 => ⟨S8x4096x1024, .f32⟩
  | 26 => ⟨S8x4096x1024, .f32⟩
  | 27 => ⟨S8x4096x1024, .f32⟩
  | 28 => ⟨S8x4096x1024, .f32⟩
  | 29 => ⟨S8x4096x3, .f32⟩
  | 30 => ⟨S8x4096x3, .i32⟩
  | 31 => ⟨S8x4096x3, .f32⟩
  | 32 => ⟨S_, .f32⟩
  | 33 => ⟨S8x4096x3, .f32⟩
  | 34 => ⟨S8x4096x3, .f32⟩
  | 35 => ⟨S_, .f32⟩
  | 36 => ⟨S8x4096x3, .f32⟩
  | 37 => ⟨S8x4096x3, .f32⟩
  | 38 => ⟨S_, .f32⟩
  | 39 => ⟨S8x4096, .f32⟩
  | 40 => ⟨S8x4096x1, .f32⟩
  | 41 => ⟨S8x4096x3, .f32⟩
  | 42 => ⟨S8x4096x3, .f32⟩
  | 43 => ⟨S8x1x12288, .i32⟩
  | 44 => ⟨S8x256x12288, .i32⟩
  | 45 => ⟨S_, .i32⟩
  | 46 => ⟨S8x256x12288, .i32⟩
  | 47 => ⟨S8x256x12288, .i1⟩
  | 48 => ⟨S_, .i32⟩
  | 49 => ⟨S8x256x12288, .i32⟩
  | 50 => ⟨S8x256x12288, .i32⟩
  | 51 => ⟨S8x256x12288, .i32⟩
  | 52 => ⟨S8x256x12288x1, .i32⟩
  | 53 => ⟨S1, .i32⟩
  | 54 => ⟨S_, .i32⟩
  | 55 => ⟨S8x256x12288x1, .i32⟩
  | 56 => ⟨S8x256x12288x1, .i1⟩
  | 57 => ⟨S1x1x1x1, .i32⟩
  | 58 => ⟨S8x256x12288x1, .i32⟩
  | 59 => ⟨S8x256x12288x1, .i1⟩
  | 60 => ⟨S8x256x12288x1, .i1⟩
  | 61 => ⟨S_, .i1⟩
  | 62 => ⟨S8x256x12288, .i1⟩
  | 63 => ⟨S8x256x12288, .f32⟩
  | 64 => ⟨S_, .f32⟩
  | 65 => ⟨S8x256x12288, .f32⟩
  | 66 => ⟨S8x256x12288, .f32⟩
  | 67 => ⟨S8x256x4096x3, .f32⟩
  | 68 => ⟨S8x1x4096x3, .f32⟩
  | 69 => ⟨S8x256x4096x3, .f32⟩
  | 70 => ⟨S8x256x4096x3, .f32⟩
  | 71 => ⟨S_, .f32⟩
  | 72 => ⟨S8x256x4096, .f32⟩
  | 73 => ⟨S8x384x4096, .f32⟩
  | 74 => ⟨S8x4096x256, .f32⟩
  | 75 => ⟨S8x256x4096, .f32⟩
  | 76 => ⟨S1x256x1, .f32⟩
  | 77 => ⟨S8x256x4096, .f32⟩
  | 78 => ⟨S8x256x4096, .f32⟩
  | 79 => ⟨S_, .f32⟩
  | 80 => ⟨S256, .f32⟩
  | 81 => ⟨S1x256x1, .f32⟩
  | 82 => ⟨S_, .f32⟩
  | 83 => ⟨S1x256x1, .f32⟩
  | 84 => ⟨S1x256x1, .f32⟩
  | 85 => ⟨S_, .i32⟩
  | 86 => ⟨S_, .f32⟩
  | 87 => ⟨S256, .f32⟩
  | 88 => ⟨S1x256x1, .f32⟩
  | 89 => ⟨S_, .f32⟩
  | 90 => ⟨S1x256x1, .f32⟩
  | 91 => ⟨S1x256x1, .f32⟩
  | 92 => ⟨S8x256x4096, .f32⟩
  | 93 => ⟨S8x256x4096, .f32⟩
  | 94 => ⟨S8x256x4096, .f32⟩
  | 95 => ⟨S_, .f32⟩
  | 96 => ⟨S_, .f32⟩
  | 97 => ⟨S_, .f32⟩
  | 98 => ⟨S_, .f32⟩
  | 99 => ⟨S256, .f32⟩
  | 100 => ⟨S1x256x1, .f32⟩
  | 101 => ⟨S1x256x1, .f32⟩
  | 102 => ⟨S1x256x1, .f32⟩
  | 103 => ⟨S_, .f32⟩
  | 104 => ⟨S_, .i1⟩
  | 105 => ⟨S_, .f32⟩
  | 106 => ⟨S_, .f32⟩
  | 107 => ⟨S1x256x1, .f32⟩
  | 108 => ⟨S1x256x1, .f32⟩
  | 109 => ⟨S8x256x4096, .f32⟩
  | 110 => ⟨S8x256x4096, .f32⟩
  | 111 => ⟨S_, .f32⟩
  | 112 => ⟨S1x256x1, .f32⟩
  | 113 => ⟨S1x256x1, .f32⟩
  | 114 => ⟨S1x256x1, .f32⟩
  | 115 => ⟨S8x256x4096, .f32⟩
  | 116 => ⟨S8x256x4096, .f32⟩
  | 117 => ⟨S1x256x1, .f32⟩
  | 118 => ⟨S8x256x4096, .f32⟩
  | 119 => ⟨S8x256x4096, .f32⟩
  | 120 => ⟨S1x256x1, .f32⟩
  | 121 => ⟨S8x256x4096, .f32⟩
  | 122 => ⟨S8x256x4096, .f32⟩
  | 123 => ⟨S_, .f32⟩
  | 124 => ⟨S8x256x4096, .f32⟩
  | 125 => ⟨S8x256x4096, .f32⟩
  | 126 => ⟨S8x4096x128, .f32⟩
  | 127 => ⟨S8x128x4096, .f32⟩
  | _ => ⟨S8x4096x3, .f32⟩

abbrev hbmTy0_1 (i : Nat) : BufTy := match i % 128 with
  | 0 => ⟨S1x128x1, .f32⟩
  | 1 => ⟨S8x128x4096, .f32⟩
  | 2 => ⟨S8x128x4096, .f32⟩
  | 3 => ⟨S_, .f32⟩
  | 4 => ⟨S128, .f32⟩
  | 5 => ⟨S1x128x1, .f32⟩
  | 6 => ⟨S_, .f32⟩
  | 7 => ⟨S1x128x1, .f32⟩
  | 8 => ⟨S1x128x1, .f32⟩
  | 9 => ⟨S_, .i32⟩
  | 10 => ⟨S_, .f32⟩
  | 11 => ⟨S128, .f32⟩
  | 12 => ⟨S1x128x1, .f32⟩
  | 13 => ⟨S_, .f32⟩
  | 14 => ⟨S1x128x1, .f32⟩
  | 15 => ⟨S1x128x1, .f32⟩
  | 16 => ⟨S8x128x4096, .f32⟩
  | 17 => ⟨S8x128x4096, .f32⟩
  | 18 => ⟨S8x128x4096, .f32⟩
  | 19 => ⟨S_, .f32⟩
  | 20 => ⟨S_, .f32⟩
  | 21 => ⟨S_, .f32⟩
  | 22 => ⟨S_, .f32⟩
  | 23 => ⟨S128, .f32⟩
  | 24 => ⟨S1x128x1, .f32⟩
  | 25 => ⟨S1x128x1, .f32⟩
  | 26 => ⟨S1x128x1, .f32⟩
  | 27 => ⟨S_, .f32⟩
  | 28 => ⟨S_, .i1⟩
  | 29 => ⟨S_, .f32⟩
  | 30 => ⟨S_, .f32⟩
  | 31 => ⟨S1x128x1, .f32⟩
  | 32 => ⟨S1x128x1, .f32⟩
  | 33 => ⟨S8x128x4096, .f32⟩
  | 34 => ⟨S8x128x4096, .f32⟩
  | 35 => ⟨S_, .f32⟩
  | 36 => ⟨S1x128x1, .f32⟩
  | 37 => ⟨S1x128x1, .f32⟩
  | 38 => ⟨S1x128x1, .f32⟩
  | 39 => ⟨S8x128x4096, .f32⟩
  | 40 => ⟨S8x128x4096, .f32⟩
  | 41 => ⟨S1x128x1, .f32⟩
  | 42 => ⟨S8x128x4096, .f32⟩
  | 43 => ⟨S8x128x4096, .f32⟩
  | 44 => ⟨S1x128x1, .f32⟩
  | 45 => ⟨S8x128x4096, .f32⟩
  | 46 => ⟨S8x128x4096, .f32⟩
  | 47 => ⟨S_, .f32⟩
  | 48 => ⟨S8x128x4096, .f32⟩
  | 49 => ⟨S8x128x4096, .f32⟩
  | _ => ⟨S8x4096x3, .f32⟩

abbrev hbmTy (i : Nat) : BufTy := match i / 128 with
  | 0 => hbmTy0_0 i
  | 1 => hbmTy0_1 i
  | _ => ⟨S8x4096x3, .f32⟩

abbrev bufTy : (tb : Table) → Fin (tcTables nBuf tb) → BufTy
  | .hbm, ⟨i, _⟩ => hbmTy i
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_values : Ref sig .tc := ⟨.hbm, 29, rfl⟩
abbrev main_indices : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call0_c : Ref sig .tc := ⟨.hbm, 45, rfl⟩
abbrev main_call0_v0 : Ref sig .tc := ⟨.hbm, 46, rfl⟩
abbrev main_call0_v1 : Ref sig .tc := ⟨.hbm, 47, rfl⟩
abbrev main_call0_c_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_c_1 : Ref sig .tc := ⟨.hbm, 53, rfl⟩
abbrev main_call0_c_2 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_3 : Ref sig .tc := ⟨.hbm, 61, rfl⟩
abbrev main_call0_v12 : Ref sig .tc := ⟨.hbm, 62, rfl⟩
abbrev main_call0_v13 : Ref sig .tc := ⟨.hbm, 63, rfl⟩
abbrev main_call0_cst : Ref sig .tc := ⟨.hbm, 64, rfl⟩
abbrev main_call0_v14 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_cst_5 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_cst_6 : Ref sig .tc := ⟨.hbm, 79, rfl⟩
abbrev main_v37 : Ref sig .tc := ⟨.hbm, 80, rfl⟩
abbrev main_v38 : Ref sig .tc := ⟨.hbm, 81, rfl⟩
abbrev main_cst_7 : Ref sig .tc := ⟨.hbm, 82, rfl⟩
abbrev main_v39 : Ref sig .tc := ⟨.hbm, 83, rfl⟩
abbrev main_v40 : Ref sig .tc := ⟨.hbm, 84, rfl⟩
abbrev main_c : Ref sig .tc := ⟨.hbm, 85, rfl⟩
abbrev main_call1_cst : Ref sig .tc := ⟨.hbm, 86, rfl⟩
abbrev main_call1_v0 : Ref sig .tc := ⟨.hbm, 87, rfl⟩
abbrev main_call1_v1 : Ref sig .tc := ⟨.hbm, 88, rfl⟩
abbrev main_call1_cst_0 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_call1_v5 : Ref sig .tc := ⟨.hbm, 93, rfl⟩
abbrev main_call1_v6 : Ref sig .tc := ⟨.hbm, 94, rfl⟩
abbrev main_call1_v7 : Ref sig .tc := ⟨.hbm, 95, rfl⟩
abbrev main_call1_cst_1 : Ref sig .tc := ⟨.hbm, 96, rfl⟩
abbrev main_call1_v8 : Ref sig .tc := ⟨.hbm, 97, rfl⟩
abbrev main_call1_cst_2 : Ref sig .tc := ⟨.hbm, 98, rfl⟩
abbrev main_call1_v9 : Ref sig .tc := ⟨.hbm, 99, rfl⟩
abbrev main_call1_v10 : Ref sig .tc := ⟨.hbm, 100, rfl⟩
abbrev main_call1_v11 : Ref sig .tc := ⟨.hbm, 101, rfl⟩
abbrev main_call1_v12 : Ref sig .tc := ⟨.hbm, 102, rfl⟩
abbrev main_call1_cst_3 : Ref sig .tc := ⟨.hbm, 103, rfl⟩
abbrev main_call1_v13 : Ref sig .tc := ⟨.hbm, 104, rfl⟩
abbrev main_call1_cst_4 : Ref sig .tc := ⟨.hbm, 105, rfl⟩
abbrev main_call1_call0_v0 : Ref sig .tc := ⟨.hbm, 106, rfl⟩
abbrev main_call1_call0_v1 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_cst_8 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_cst_9 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_cst_10 : Ref sig .tc := ⟨.hbm, 131, rfl⟩
abbrev main_v62 : Ref sig .tc := ⟨.hbm, 132, rfl⟩
abbrev main_v63 : Ref sig .tc := ⟨.hbm, 133, rfl⟩
abbrev main_cst_11 : Ref sig .tc := ⟨.hbm, 134, rfl⟩
abbrev main_v64 : Ref sig .tc := ⟨.hbm, 135, rfl⟩
abbrev main_v65 : Ref sig .tc := ⟨.hbm, 136, rfl⟩
abbrev main_c_12 : Ref sig .tc := ⟨.hbm, 137, rfl⟩
abbrev main_call2_cst : Ref sig .tc := ⟨.hbm, 138, rfl⟩
abbrev main_call2_v0 : Ref sig .tc := ⟨.hbm, 139, rfl⟩
abbrev main_call2_v1 : Ref sig .tc := ⟨.hbm, 140, rfl⟩
abbrev main_call2_cst_0 : Ref sig .tc := ⟨.hbm, 141, rfl⟩
abbrev main_call2_v2 : Ref sig .tc := ⟨.hbm, 142, rfl⟩
abbrev main_call2_v3 : Ref sig .tc := ⟨.hbm, 143, rfl⟩
abbrev main_call2_v4 : Ref sig .tc := ⟨.hbm, 144, rfl⟩
abbrev main_call2_v5 : Ref sig .tc := ⟨.hbm, 145, rfl⟩
abbrev main_call2_v6 : Ref sig .tc := ⟨.hbm, 146, rfl⟩
abbrev main_call2_v7 : Ref sig .tc := ⟨.hbm, 147, rfl⟩
abbrev main_call2_cst_1 : Ref sig .tc := ⟨.hbm, 148, rfl⟩
abbrev main_call2_v8 : Ref sig .tc := ⟨.hbm, 149, rfl⟩
abbrev main_call2_cst_2 : Ref sig .tc := ⟨.hbm, 150, rfl⟩
abbrev main_call2_v9 : Ref sig .tc := ⟨.hbm, 151, rfl⟩
abbrev main_call2_v10 : Ref sig .tc := ⟨.hbm, 152, rfl⟩
abbrev main_call2_v11 : Ref sig .tc := ⟨.hbm, 153, rfl⟩
abbrev main_call2_v12 : Ref sig .tc := ⟨.hbm, 154, rfl⟩
abbrev main_call2_cst_3 : Ref sig .tc := ⟨.hbm, 155, rfl⟩
abbrev main_call2_v13 : Ref sig .tc := ⟨.hbm, 156, rfl⟩
abbrev main_call2_cst_4 : Ref sig .tc := ⟨.hbm, 157, rfl⟩
abbrev main_call2_call0_v0 : Ref sig .tc := ⟨.hbm, 158, rfl⟩
abbrev main_call2_call0_v1 : Ref sig .tc := ⟨.hbm, 159, rfl⟩
abbrev main_v66 : Ref sig .tc := ⟨.hbm, 160, rfl⟩
abbrev main_v67 : Ref sig .tc := ⟨.hbm, 161, rfl⟩
abbrev main_v68 : Ref sig .tc := ⟨.hbm, 162, rfl⟩
abbrev main_cst_13 : Ref sig .tc := ⟨.hbm, 163, rfl⟩
abbrev main_v69 : Ref sig .tc := ⟨.hbm, 164, rfl⟩
abbrev main_v70 : Ref sig .tc := ⟨.hbm, 165, rfl⟩
abbrev main_v71 : Ref sig .tc := ⟨.hbm, 166, rfl⟩
abbrev main_v72 : Ref sig .tc := ⟨.hbm, 167, rfl⟩
abbrev main_v73 : Ref sig .tc := ⟨.hbm, 168, rfl⟩
abbrev main_v74 : Ref sig .tc := ⟨.hbm, 169, rfl⟩
abbrev main_v75 : Ref sig .tc := ⟨.hbm, 170, rfl⟩
abbrev main_v76 : Ref sig .tc := ⟨.hbm, 171, rfl⟩
abbrev main_v77 : Ref sig .tc := ⟨.hbm, 172, rfl⟩
abbrev main_v78 : Ref sig .tc := ⟨.hbm, 173, rfl⟩
abbrev main_v79 : Ref sig .tc := ⟨.hbm, 174, rfl⟩
abbrev main_cst_14 : Ref sig .tc := ⟨.hbm, 175, rfl⟩
abbrev main_v80 : Ref sig .tc := ⟨.hbm, 176, rfl⟩
abbrev main_v81 : Ref sig .tc := ⟨.hbm, 177, rfl⟩

abbrev nD : Nat := 1
abbrev τ : Topo := Topo.v7x

variable {F : FTy → Type} [FloatOps F]
-- ==== Proof.KRun.lean ====
/-
  The kernel's run, with what it leaves in its result: every execution ends with the arguments as launched and the result
  array holding what the last of the program's segments leaves there.
-/
module

public import proofs.«01_k».proof.Proof.Gen.KernelIdeal.Frame

@[expose] public section

set_option maxRecDepth 16384

noncomputable section

namespace Cert.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every execution from `m` ends, faulting nowhere, with the result array at its contents after the third
    `pallas_call` and each argument array as launched. -/
theorem run : θ_run defs (onTc (τ := τ) (main (F := F))) ⟨m, fun _ => 0, ρ⟩ (fun r => ∀ c : Dev nD,
      r.2.mem ((c.tc : Thread nD τ).loc main_v15) = W6 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => fun c =>
      ⟨h c _ (mem_uc main_v15 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KRun

end
-- ==== Proof.Select.lean ====
/-
  The three smallest entries of a row of 1024 real numbers, found in two ways.

  `nearest f` is the head of the stable sort of the row by value: smallest first, equal values in index order. The other
  way is three rounds of: take the row's minimum, take the lowest index at which it stands, replace that entry by +∞.
  `rounds_nearest` states that the rounds find the same three indices.
-/
module

public import Idealize.ShloMosaic.Lib.Pointwise
public import Idealize.ShloMosaic.Lib.SortPrefix

@[expose] public section

noncomputable section

namespace Cert.Select

open Idealize.ShloMosaic

/-! ## The stable sort's first three -/

/-- The positions of the three smallest entries, smallest first, equal entries in index order. -/
def nearest (f : Fin 1024 → ℝ) (i : Fin 3) : Fin 1024 :=
  sortedFrom (fun a b => decide (f a < f b)) (i.castLE (by decide))

/-- `a` comes before `b`: a smaller value, or the same value at a lower index. -/
def before (f : Fin 1024 → ℝ) (a b : Fin 1024) : Bool :=
  decide (f a < f b) || (decide (f a = f b) && decide (a < b))

theorem before_strictTotal (f : Fin 1024 → ℝ) : StrictTotalBefore (before f) := by
  have h := StrictTotalBefore.of_key_then_position (fun x y : ℝ => decide (x < y)) f (by simp)
    (fun a b c hab hbc => by
      simp only [decide_eq_true_eq] at *
      exact lt_trans hab hbc)
    (fun a b => by
      simp only [decide_eq_true_eq]
      exact lt_trichotomy a b)
  have e : before f = fun k k' => (fun x y : ℝ => decide (x < y)) (f k) (f k') || (decide (f k = f k') && decide (k < k')) := by
    funext a b
    unfold before
    congr
  rw [e]
  exact h

/-- On a list in index order the stable sort by value is the sort by value and then index. -/
theorem stableSort_value_eq (f : Fin 1024 → ℝ) (l : List (Fin 1024)) (hl : l.Pairwise (· < ·)) :
    stableSort (fun a b => decide (f a < f b)) l = stableSort (before f) l := by
  induction l with
  | nil => rfl
  | cons a l ih =>
    rw [List.pairwise_cons] at hl
    unfold stableSort
    rw [ih hl.2]
    refine insertBefore_congr _ _ a _ fun b hb => ?_
    have hab : a < b := hl.1 b ((perm_stableSort (before f) l).mem_iff.mp hb)
    have hba : ¬ b < a := not_lt.mpr hab.le
    simp [before, hba]

theorem sortedFrom_of_positions {n : ℕ} {B B' : Fin n → Fin n → Bool} (h : sortPositions n B = sortPositions n B') :
    sortedFrom B = sortedFrom B' := by
  funext k
  unfold sortedFrom
  rw [List.get_of_eq h]
  rfl

theorem sortedFrom_value_eq (f : Fin 1024 → ℝ) :
    sortedFrom (fun a b => decide (f a < f b)) = sortedFrom (before f) :=
  sortedFrom_of_positions (stableSort_value_eq f (List.finRange 1024) (List.pairwise_lt_finRange 1024))

/-- Three positions in order, with every other position after the last of them, are the three nearest. -/
theorem nearest_eq (f : Fin 1024 → ℝ) (σ : Fin 3 → Fin 1024)
    (hord : ∀ i j : Fin 3, i < j → before f (σ i) (σ j) = true)
    (hdom : ∀ (i : Fin 3) (p : Fin 1024), (∀ j, σ j ≠ p) → before f (σ i) p = true) : nearest f = σ := by
  have hB := before_strictTotal f
  funext i
  unfold nearest
  rw [sortedFrom_value_eq]
  refine hB.sortedFrom_eq_of_prefix (k := 3) (by decide) σ ?_ (fun i j h => hB.asymm _ _ (hord i j h))
    (fun i p h => hB.asymm _ _ (hdom i p h)) i
  intro i j hij
  by_contra hne
  rcases lt_or_gt_of_ne hne with h | h
  · have := hord i j h
    rw [hij, hB.irrefl] at this
    exact absurd this (by decide)
  · have := hord j i h
    rw [hij, hB.irrefl] at this
    exact absurd this (by decide)

theorem nearest_injective (f : Fin 1024 → ℝ) : Function.Injective (nearest f) := by
  intro i j h
  have := sortedFrom_injective _ h
  exact Fin.castLE_injective _ this

/-! ## One round: minimum, lowest index, replacement by +∞ -/

/-- The row's minimum. -/
def rowMin (g : Fin 1024 → EReal) : EReal := Finset.univ.fold min ⊤ g

open Classical in
/-- The lowest index at which the minimum stands, as a 32-bit word. -/
def rowArg (g : Fin 1024 → EReal) : BitVec 32 :=
  Finset.univ.fold IntOp.minsi (2147483647#32) fun p => if g p = rowMin g then BitVec.ofNat 32 p.val else 1024#32

/-- The row with the entry at that index replaced by +∞. -/
def mark (g : Fin 1024 → EReal) (p : Fin 1024) : EReal := if BitVec.ofNat 32 p.val = rowArg g then ⊤ else g p

theorem rowMin_le (g : Fin 1024 → EReal) (p : Fin 1024) : rowMin g ≤ g p :=
  (Finset.fold_min_le _).mpr (.inr ⟨p, Finset.mem_univ _, le_rfl⟩)

theorem exists_rowMin (g : Fin 1024 → EReal) : ∃ p, g p = rowMin g := by
  rcases (Finset.fold_min_le (rowMin g) (b := ⊤) (f := g) (s := Finset.univ)).mp le_rfl with h | ⟨p, -, h⟩
  · have : rowMin g = ⊤ := top_le_iff.mp h
    exact ⟨0, le_antisymm (this ▸ le_top) (rowMin_le g 0)⟩
  · exact ⟨p, le_antisymm h (rowMin_le g p)⟩

theorem toInt_minsi (x y : BitVec 32) : (IntOp.minsi x y).toInt = min x.toInt y.toInt := by
  unfold IntOp.minsi
  by_cases h : x.slt y
  · rw [if_pos h]
    have : x.toInt < y.toInt := by simpa [BitVec.slt] using h
    rw [min_eq_left this.le]
  · rw [if_neg h]
    have : y.toInt ≤ x.toInt := by simpa [BitVec.slt] using h
    rw [min_eq_right this]

theorem toInt_index (p : Fin 1024) : (BitVec.ofNat 32 p.val).toInt = p.val := by
  have := p.isLt
  rw [BitVec.toInt_eq_toNat_of_lt (by simp; omega)]
  simp; omega

theorem index_inj (p q : Fin 1024) : BitVec.ofNat 32 p.val = BitVec.ofNat 32 q.val ↔ p = q := by
  constructor
  · intro h
    have := congrArg BitVec.toInt h
    rw [toInt_index, toInt_index] at this
    exact Fin.ext (by exact_mod_cast this)
  · rintro rfl; rfl

/-- `rowArg` is the index of an entry equal to the minimum, the lowest such. -/
theorem exists_rowArg (g : Fin 1024 → EReal) :
    ∃ j : Fin 1024, rowArg g = BitVec.ofNat 32 j.val ∧ g j = rowMin g ∧ ∀ p, g p = rowMin g → j ≤ p := by
  classical
  obtain ⟨p₀, hp₀⟩ := exists_rowMin g
  have hne : (Finset.univ.filter fun p => g p = rowMin g).Nonempty := ⟨p₀, by simp [hp₀]⟩
  obtain ⟨j, hj, hjm⟩ := Finset.exists_min_image _ id hne
  have hgj : g j = rowMin g := (Finset.mem_filter.mp hj).2
  have hlow : ∀ p, g p = rowMin g → j ≤ p := fun p hp => hjm p (by simp [hp])
  refine ⟨j, ?_, hgj, hlow⟩
  apply BitVec.toInt_inj.mp
  unfold rowArg
  rw [← Finset.fold_hom (op := IntOp.minsi) (op' := min) (m := BitVec.toInt) toInt_minsi, toInt_index]
  apply le_antisymm
  · refine (Finset.fold_min_le _).mpr (.inr ⟨j, Finset.mem_univ _, ?_⟩)
    simp only [hgj, if_true, toInt_index, le_refl]
  · refine (Finset.le_fold_min _).mpr ⟨?_, fun p _ => ?_⟩
    · have := j.isLt
      have e : (2147483647#32).toInt = 2147483647 := by decide
      rw [e]; omega
    · by_cases h : g p = rowMin g
      · rw [if_pos h, toInt_index]
        exact_mod_cast hlow p h
      · rw [if_neg h]
        have := j.isLt
        have e : (1024#32).toInt = 1024 := by decide
        rw [e]; omega

open Classical in
/-- A row of real numbers with the entries of `A` replaced by +∞. -/
def masked (f : Fin 1024 → ℝ) (A : Finset (Fin 1024)) (p : Fin 1024) : EReal := if p ∈ A then ⊤ else (f p : EReal)

/-- One round on a row some of whose entries, not all, are already replaced: it finds the first of the rest. -/
theorem round_masked (f : Fin 1024 → ℝ) (A : Finset (Fin 1024)) (hA : A.card < 1024) :
    ∃ j, j ∉ A ∧ rowMin (masked f A) = (f j : EReal) ∧ mark (masked f A) = masked f (insert j A)
      ∧ ∀ p, p ∉ A → p ≠ j → before f j p = true := by
  classical
  obtain ⟨j, hj, hgj, hlow⟩ := exists_rowArg (masked f A)
  obtain ⟨q, hq⟩ : ∃ q, q ∉ A := by
    by_contra h
    push Not at h
    have : A = Finset.univ := Finset.eq_univ_of_forall h
    rw [this, Finset.card_univ, Fintype.card_fin] at hA
    exact absurd hA (lt_irrefl _)
  have hjA : j ∉ A := by
    intro hjA
    have h1 : masked f A j = ⊤ := by simp [masked, hjA]
    have h2 : rowMin (masked f A) ≤ (f q : EReal) := by
      have := rowMin_le (masked f A) q
      simpa [masked, hq] using this
    rw [← hgj, h1] at h2
    exact absurd (top_le_iff.mp h2) (EReal.coe_ne_top _)
  have hmin : rowMin (masked f A) = (f j : EReal) := by rw [← hgj]; simp [masked, hjA]
  refine ⟨j, hjA, hmin, ?_, fun p hp hpj => ?_⟩
  · funext p
    unfold mark
    simp only [hj, index_inj]
    by_cases h : p = j
    · subst h; simp [masked]
    · rw [if_neg h]; simp [masked, h]
  · have hle : (f j : EReal) ≤ (f p : EReal) := by
      have := rowMin_le (masked f A) p
      rw [hmin] at this
      simpa [masked, hp] using this
    have hle' : f j ≤ f p := EReal.coe_le_coe_iff.mp hle
    rcases hle'.lt_or_eq with h | h
    · simp [before, h]
    · have : j ≤ p := hlow p (by rw [hmin]; simp [masked, hp, h])
      have : j < p := lt_of_le_of_ne this (Ne.symm hpj)
      simp [before, h, this]

/-- Three rounds from a row of real numbers: the minima found are the entries at the three nearest positions, and the row
    they leave differs from the row they started from exactly at those positions. -/
theorem rounds_nearest (f : Fin 1024 → ℝ) (g : Fin 1024 → EReal) (hg : ∀ p, g p = (f p : EReal)) :
    rowMin g = (f (nearest f 0) : EReal) ∧ rowMin (mark g) = (f (nearest f 1) : EReal)
      ∧ rowMin (mark (mark g)) = (f (nearest f 2) : EReal)
      ∧ ∀ p, mark (mark (mark g)) p ≠ g p ↔ ∃ i, nearest f i = p := by
  classical
  have e0 : g = masked f ∅ := by funext p; simp [masked, hg p]
  obtain ⟨j0, h0, m0, k0, o0⟩ := round_masked f ∅ (by simp)
  obtain ⟨j1, h1, m1, k1, o1⟩ := round_masked f (insert j0 ∅) (by
    refine lt_of_le_of_lt (Finset.card_insert_le _ _) (by simp))
  obtain ⟨j2, h2, m2, k2, o2⟩ := round_masked f (insert j1 (insert j0 ∅)) (by
    refine lt_of_le_of_lt (Finset.card_insert_le _ _) ?_
    refine lt_of_le_of_lt (Nat.add_le_add_right (Finset.card_insert_le _ _) 1) (by simp))
  simp only [Finset.mem_insert, Finset.notMem_empty, or_false, not_or] at h0 h1 h2 o0 o1 o2
  have hn : nearest f = ![j0, j1, j2] := by
    have b01 := o0 j1 (by simp) h1
    have b02 := o0 j2 (by simp) h2.2
    have b12 := o1 j2 h2.2 h2.1
    refine nearest_eq f _ ?_ ?_
    · intro i j hij
      fin_cases i <;> fin_cases j <;> simp_all
    · intro i p hp
      have p0 : p ≠ j0 := fun h => hp 0 (by simp [h])
      have p1 : p ≠ j1 := fun h => hp 1 (by simp [h])
      have p2 : p ≠ j2 := fun h => hp 2 (by simp [h])
      fin_cases i
      · exact o0 p (by simp) p0
      · exact o1 p p0 p1
      · exact o2 p ⟨p1, p0⟩ p2
  rw [hn, e0, k0, k1, k2, m0, m1, m2]
  refine ⟨rfl, rfl, rfl, fun p => ?_⟩
  have hi : (∃ i : Fin 3, (![j0, j1, j2] : Fin 3 → Fin 1024) i = p) ↔ p = j2 ∨ p = j1 ∨ p = j0 := by
    simp only [Fin.exists_fin_succ, Fin.exists_fin_zero_pi, Matrix.cons_val_zero, Matrix.cons_val_succ, IsEmpty.exists_iff, or_false]
    constructor
    · rintro (h | h | h) <;> simp [h]
    · rintro (h | h | h) <;> simp [h]
  rw [hi]
  unfold masked
  by_cases h : p = j2 ∨ p = j1 ∨ p = j0
  · simp [h]
  · simp [h]

end Cert.Select

end
-- ==== Proof.Infinite.lean ====
/-
  Infinite numbers among the extended reals: how they pass through sums and products. Two numbers are alike when they
  are equal or both infinite. Sums of alike numbers are alike, and so are their multiples by one number.
-/
module

public import proofs.«01_k».proof.Proof.Select

@[expose] public section

noncomputable section

namespace Cert.Infinite

/-- An infinite number. -/
def IsInf (x : EReal) : Prop := x = ⊤ ∨ x = ⊥

/-- Equal, or both infinite. -/
def Alike (x y : EReal) : Prop := x = y ∨ IsInf x ∧ IsInf y

theorem not_isInf_coe (r : ℝ) : ¬ IsInf (r : EReal) := by simp [IsInf]

theorem eq_coe_of_not_isInf {x : EReal} (h : ¬ IsInf x) : x = ((x.toReal : ℝ) : EReal) :=
  (EReal.coe_toReal (fun e => h (.inl e)) (fun e => h (.inr e))).symm

theorem IsInf.add {x : EReal} (h : IsInf x) (y : EReal) : IsInf (x + y) := by
  rcases h with rfl | rfl
  · induction y <;> simp [IsInf]
  · simp [IsInf]

theorem IsInf.neg {x : EReal} (h : IsInf x) : IsInf (-x) := by
  rcases h with rfl | rfl <;> simp [IsInf]

theorem IsInf.sub_right {x : EReal} (h : IsInf x) (y : EReal) : IsInf (y - x) := by
  rw [sub_eq_add_neg, add_comm]
  exact h.neg.add _

theorem IsInf.mul {x y : EReal} (h : IsInf x) (hy : y ≠ 0) : IsInf (x * y) := by
  rcases h with rfl | rfl
  · rcases lt_or_gt_of_ne hy with h | h
    · exact .inr (EReal.top_mul_of_neg h)
    · exact .inl (EReal.top_mul_of_pos h)
  · rcases lt_or_gt_of_ne hy with h | h
    · exact .inl (EReal.bot_mul_of_neg h)
    · exact .inr (EReal.bot_mul_of_pos h)

theorem IsInf.mul_self {x : EReal} (h : IsInf x) : x * x = ⊤ := by
  rcases h with rfl | rfl <;> simp

theorem mul_self_nonneg (x : EReal) : 0 ≤ x * x := by
  induction x with
  | bot => simp
  | top => simp
  | coe r => exact_mod_cast _root_.mul_self_nonneg r

/-- A sum with an infinite term is infinite. -/
theorem isInf_sum {ι : Type} [Fintype ι] (f : ι → EReal) (i : ι) (h : IsInf (f i)) : IsInf (∑ i, f i) := by
  classical
  rw [← Finset.add_sum_erase _ _ (Finset.mem_univ i)]
  exact h.add _

/-- A sum of terms none negative, one of them +∞, is +∞. -/
theorem sum_eq_top {ι : Type} [Fintype ι] (f : ι → EReal) (h0 : ∀ i, 0 ≤ f i) (i : ι) (h : f i = ⊤) : ∑ i, f i = ⊤ :=
  top_le_iff.mp (h ▸ Finset.single_le_sum (fun j _ => h0 j) (Finset.mem_univ i))

theorem Alike.refl (x : EReal) : Alike x x := .inl rfl

theorem Alike.add {x y x' y' : EReal} (h : Alike x y) (h' : Alike x' y') : Alike (x + x') (y + y') := by
  rcases h with rfl | ⟨hx, hy⟩
  · rcases h' with rfl | ⟨hx', hy'⟩
    · exact .inl rfl
    · rw [add_comm x, add_comm x]
      exact .inr ⟨hx'.add _, hy'.add _⟩
  · exact .inr ⟨hx.add _, hy.add _⟩

theorem Alike.mul_right {x y : EReal} (h : Alike x y) (a : EReal) : Alike (x * a) (y * a) := by
  rcases h with rfl | ⟨hx, hy⟩
  · exact .inl rfl
  · by_cases ha : a = 0
    · subst ha
      simp [Alike]
    · exact .inr ⟨hx.mul ha, hy.mul ha⟩

theorem Alike.sum {ι : Type} [Fintype ι] (f g : ι → EReal) (h : ∀ i, Alike (f i) (g i)) : Alike (∑ i, f i) (∑ i, g i) := by
  classical
  induction (Finset.univ : Finset ι) using Finset.induction_on with
  | empty => exact .inl (by simp)
  | insert a s ha ih =>
    rw [Finset.sum_insert ha, Finset.sum_insert ha]
    exact (h a).add ih

/-- A difference of a number from itself: zero, or −∞ where it is infinite. -/
theorem sub_self_cases (x : EReal) : x - x = 0 ∧ ¬ IsInf x ∨ x - x = ⊥ ∧ IsInf x := by
  induction x with
  | bot => exact .inr ⟨by simp [sub_eq_add_neg], .inr rfl⟩
  | top => exact .inr ⟨by simp [sub_eq_add_neg], .inl rfl⟩
  | coe r => exact .inl ⟨by rw [← EReal.coe_sub, sub_self, EReal.coe_zero], not_isInf_coe r⟩

/-- Adding the weighted differences of numbers from themselves to their weighted sum gives a number alike, where no
    weight is zero. -/
theorem alike_parts {ι : Type} [Fintype ι] (v w : ι → EReal) (hw : ∀ i, w i ≠ 0) :
    Alike ((∑ i, (v i - v i) * w i) + ∑ i, v i * w i) (∑ i, v i * w i) := by
  by_cases h : ∃ i, IsInf (v i)
  · obtain ⟨i, hi⟩ := h
    have hs : IsInf (∑ i, v i * w i) := isInf_sum _ i (hi.mul (hw i))
    exact .inr ⟨by rw [add_comm]; exact hs.add _, hs⟩
  · have h0 : ∀ i, v i - v i = 0 := fun i => by
      rcases sub_self_cases (v i) with e | e
      · exact e.1
      · exact (h ⟨i, e.2⟩).elim
    simp only [h0, zero_mul, Finset.sum_const_zero, zero_add]
    exact .refl _

end Cert.Infinite

end
-- ==== Proof.Spec.lean ====
/-
  The computation: what both programs compute of finite points and scales and of any features, matrices, biases and
  shifts. It names neither program.

  Per query point: the squared distances to the 1024 source points, the three nearest of them, weights proportional to
  1 / (distance + 1e-8), the weighted sum of their features; then two layers, each a linear map over the channels
  followed by a normalisation over the batch and the points, and a maximum with zero. A channel of the linear map with
  an infinite entry normalises to its shift.
-/
module

public import proofs.«01_k».proof.Proof.Infinite

@[expose] public section

noncomputable section

namespace Cert.Spec

open Cert.Select Cert.Infinite

/-- The twelve arguments: points and scales as real arrays, the others over the extended reals. -/
structure Args where
  xyz1 : Fin 8 → Fin 4096 → Fin 3 → ℝ
  xyz2 : Fin 8 → Fin 1024 → Fin 3 → ℝ
  feat1 : Fin 8 → Fin 128 → Fin 4096 → EReal
  feat2 : Fin 8 → Fin 256 → Fin 1024 → EReal
  W0 : Fin 256 → Fin 384 → EReal
  b0 : Fin 256 → EReal
  g0 : Fin 256 → ℝ
  be0 : Fin 256 → EReal
  W1 : Fin 128 → Fin 256 → EReal
  b1 : Fin 128 → EReal
  g1 : Fin 128 → ℝ
  be1 : Fin 128 → EReal

/-- The single-precision number nearest 1e-8. -/
def eps8 : ℝ := 11258999 / 2 ^ 50
/-- The single-precision number nearest 1e-5. -/
def eps5 : ℝ := 10995116 / 2 ^ 40

theorem eps8_pos : 0 < eps8 := by unfold eps8; positivity
theorem eps5_pos : 0 < eps5 := by unfold eps5; positivity

/-! ## Interpolation from the three nearest points -/

/-- The squared distance of two points, as norms less twice the inner product. -/
def sqdist (u v : Fin 3 → ℝ) : ℝ := (∑ k, u k * u k) + (∑ k, v k * v k) - 2 * ∑ k, u k * v k

theorem sqdist_nonneg (u v : Fin 3 → ℝ) : 0 ≤ sqdist u v := by
  have h : sqdist u v = ∑ k, (u k - v k) ^ 2 := by
    unfold sqdist
    rw [Finset.mul_sum, ← Finset.sum_add_distrib, ← Finset.sum_sub_distrib]
    exact Finset.sum_congr rfl fun k _ => by ring
  rw [h]
  exact Finset.sum_nonneg fun k _ => sq_nonneg _

/-- Of a row of distances: the inverse of the `i`-th nearest. -/
def invDist (f : Fin 1024 → ℝ) (i : Fin 3) : ℝ := 1 / (f (nearest f i) + eps8)

/-- The sum of the three inverses. -/
def invSum (f : Fin 1024 → ℝ) : ℝ := ∑ i, invDist f i

/-- The weight of the `i`-th nearest. -/
def weight (f : Fin 1024 → ℝ) (i : Fin 3) : ℝ := invDist f i / invSum f

open Classical in
/-- The weights laid along the row: zero away from the three nearest. -/
def rowWeight (f : Fin 1024 → ℝ) (p : Fin 1024) : ℝ :=
  if ∃ i, nearest f i = p then 1 / (f p + eps8) / invSum f else 0

theorem invDist_pos (f : Fin 1024 → ℝ) (hf : ∀ p, 0 ≤ f p) (i : Fin 3) : 0 < invDist f i :=
  one_div_pos.mpr (add_pos_of_nonneg_of_pos (hf _) eps8_pos)

theorem invSum_pos (f : Fin 1024 → ℝ) (hf : ∀ p, 0 ≤ f p) : 0 < invSum f :=
  Finset.sum_pos (fun i _ => invDist_pos f hf i) ⟨0, Finset.mem_univ _⟩

theorem weight_pos (f : Fin 1024 → ℝ) (hf : ∀ p, 0 ≤ f p) (i : Fin 3) : 0 < weight f i :=
  div_pos (invDist_pos f hf i) (invSum_pos f hf)

/-- A sum against the weights along the row is the sum over the three nearest. -/
theorem sum_rowWeight (f : Fin 1024 → ℝ) (v : Fin 1024 → EReal) :
    ∑ p, (rowWeight f p : EReal) * v p = ∑ i, v (nearest f i) * (weight f i : EReal) := by
  classical
  have h1 : ∑ p, (rowWeight f p : EReal) * v p
      = ∑ p ∈ Finset.univ.image (nearest f), ((1 / (f p + eps8) / invSum f : ℝ) : EReal) * v p := by
    rw [← Finset.sum_filter_add_sum_filter_not Finset.univ (fun p => ∃ i, nearest f i = p)]
    have h0 : ∑ p ∈ Finset.univ.filter (fun p => ¬ ∃ i, nearest f i = p), (rowWeight f p : EReal) * v p = 0 :=
      Finset.sum_eq_zero fun p hp => by
        have := (Finset.mem_filter.mp hp).2
        simp [rowWeight, this]
    rw [h0, add_zero]
    refine Finset.sum_congr ?_ fun p hp => ?_
    · ext p; simp
    · have : ∃ i, nearest f i = p := by simpa using hp
      simp only [rowWeight, if_pos this]
  rw [h1, Finset.sum_image fun i _ j _ h => nearest_injective f h]
  exact Finset.sum_congr rfl fun i _ => mul_comm _ _

/-! ## Normalisation over batch and points -/

/-- The sum over the batch and the points. -/
def total {M : Type} [AddCommMonoid M] (u : Fin 8 → Fin 4096 → M) : M := ∑ b, ∑ n, u b n

/-- A channel's mean. -/
def mean (u : Fin 8 → Fin 4096 → ℝ) : ℝ := total u / 32768

/-- A channel's variance: the mean of the squared differences from the mean. -/
def variance (u : Fin 8 → Fin 4096 → ℝ) : ℝ :=
  total (fun b n => (u b n - mean u) * (u b n - mean u)) / 32768

/-- A channel's entry normalised and scaled. -/
def normal (u : Fin 8 → Fin 4096 → ℝ) (g : ℝ) (b : Fin 8) (n : Fin 4096) : ℝ :=
  (u b n - mean u) / Real.sqrt (variance u + eps5) * g

open Classical in
/-- A channel's entry normalised, scaled, shifted, and cut off below zero. Where the channel has an infinite entry only
    the shift is left. -/
def normRelu (u : Fin 8 → Fin 4096 → EReal) (g : ℝ) (be : EReal) (b : Fin 8) (n : Fin 4096) : EReal :=
  max ((if ∃ b n, IsInf (u b n) then 0 else (normal (fun b n => (u b n).toReal) g b n : EReal)) + be) 0

theorem normRelu_of_isInf (u : Fin 8 → Fin 4096 → EReal) (h : ∃ b n, IsInf (u b n)) (g : ℝ) (be : EReal) (b : Fin 8)
    (n : Fin 4096) : normRelu u g be b n = max be 0 := by
  unfold normRelu
  rw [if_pos h, zero_add]

theorem normRelu_coe (r : Fin 8 → Fin 4096 → ℝ) (g : ℝ) (be : EReal) (b : Fin 8) (n : Fin 4096) :
    normRelu (fun b n => (r b n : EReal)) g be b n = max ((normal r g b n : EReal) + be) 0 := by
  unfold normRelu
  rw [if_neg fun ⟨b, n, h⟩ => not_isInf_coe _ h]
  simp only [EReal.toReal_coe]

/-- Channels alike entry by entry have the same normalisation. -/
theorem normRelu_congr (u v : Fin 8 → Fin 4096 → EReal) (h : ∀ b n, Alike (u b n) (v b n)) (g : ℝ) (be : EReal)
    (b : Fin 8) (n : Fin 4096) : normRelu u g be b n = normRelu v g be b n := by
  by_cases hu : ∃ b n, IsInf (u b n)
  · obtain ⟨b', n', hi⟩ := hu
    have hv : IsInf (v b' n') := by
      rcases h b' n' with e | e
      · exact e ▸ hi
      · exact e.2
    rw [normRelu_of_isInf u ⟨b', n', hi⟩, normRelu_of_isInf v ⟨b', n', hv⟩]
  · have : u = v := by
      funext b n
      rcases h b n with e | e
      · exact e
      · exact (hu ⟨b, n, e.1⟩).elim
    rw [this]

theorem variance_nonneg (u : Fin 8 → Fin 4096 → ℝ) : 0 ≤ variance u :=
  div_nonneg (Finset.sum_nonneg fun _ _ => Finset.sum_nonneg fun _ _ => mul_self_nonneg _) (by norm_num)

/-- The mean of the squares less the square of the mean is the variance. -/
theorem variance_eq (u : Fin 8 → Fin 4096 → ℝ) :
    total (fun b n => u b n * u b n) * (1 / 32768) - mean u * mean u = variance u := by
  have h : total (fun b n => (u b n - mean u) * (u b n - mean u))
      = total (fun b n => u b n * u b n) - 2 * mean u * total u + 32768 * (mean u * mean u) := by
    unfold total
    have e : ∀ b n, (u b n - mean u) * (u b n - mean u)
        = u b n * u b n - 2 * mean u * u b n + mean u * mean u := fun b n => by ring
    simp only [e, Finset.sum_add_distrib, Finset.sum_sub_distrib, ← Finset.mul_sum, Finset.sum_const,
      Finset.card_univ, Fintype.card_fin, nsmul_eq_mul]
    push_cast
    ring
  have ht : total u = 32768 * mean u := by unfold mean; ring
  unfold variance
  rw [h, ht]
  ring

/-- The variance from a channel's sum and its sum of squares. -/
theorem sums_variance (u : Fin 8 → Fin 4096 → ℝ) :
    total (fun b n => u b n * u b n) * (1 / 32768) - total u * (1 / 32768) * (total u * (1 / 32768)) = variance u := by
  rw [← variance_eq]
  unfold mean
  ring

/-! ## The whole -/

/-- The squared distances of query point `n` of batch `b` to the source points. -/
def dist (A : Args) (b : Fin 8) (n : Fin 4096) (p : Fin 1024) : ℝ := sqdist (A.xyz1 b n) (A.xyz2 b p)

theorem dist_nonneg (A : Args) (b : Fin 8) (n : Fin 4096) (p : Fin 1024) : 0 ≤ dist A b n p := sqdist_nonneg _ _

/-- The interpolated features. -/
def interp (A : Args) (b : Fin 8) (n : Fin 4096) (c : Fin 256) : EReal :=
  ∑ i, A.feat2 b c (nearest (dist A b n) i) * (weight (dist A b n) i : EReal)

/-- The first layer's linear map of interpolated features `y` followed by the query points' own: a channel `o`. -/
def linear0 (A : Args) (y : Fin 8 → Fin 4096 → Fin 256 → EReal) (o : Fin 256) (b : Fin 8) (n : Fin 4096) : EReal :=
  (∑ c : Fin 256, y b n c * A.W0 o (Fin.castAdd 128 c))
    + (∑ c : Fin 128, A.feat1 b c n * A.W0 o (Fin.natAdd 256 c)) + A.b0 o

/-- The first layer's linear map. -/
def lin0 (A : Args) : Fin 256 → Fin 8 → Fin 4096 → EReal := linear0 A (interp A)

/-- The first layer: channel, batch, point. -/
def layer0 (A : Args) (o : Fin 256) : Fin 8 → Fin 4096 → EReal := normRelu (lin0 A o) (A.g0 o) (A.be0 o)

/-- The second layer's linear map. -/
def lin1 (A : Args) (o : Fin 128) (b : Fin 8) (n : Fin 4096) : EReal :=
  (∑ c : Fin 256, layer0 A c b n * A.W1 o c) + A.b1 o

/-- The second layer, the result: channel, batch, point. -/
def layer1 (A : Args) (o : Fin 128) : Fin 8 → Fin 4096 → EReal := normRelu (lin1 A o) (A.g1 o) (A.be1 o)

/-! ## Features taken in two parts -/

/-- The interpolated features, with the features' differences from themselves weighted and added: nothing where the
    features are finite. -/
def interpParts (A : Args) (b : Fin 8) (n : Fin 4096) (c : Fin 256) : EReal :=
  (∑ p, (rowWeight (dist A b n) p : EReal) * (A.feat2 b c p - A.feat2 b c p))
    + ∑ p, (rowWeight (dist A b n) p : EReal) * A.feat2 b c p

theorem interpParts_alike (A : Args) (b : Fin 8) (n : Fin 4096) (c : Fin 256) :
    Alike (interpParts A b n c) (interp A b n c) := by
  unfold interpParts interp
  rw [sum_rowWeight, sum_rowWeight]
  refine alike_parts _ _ fun i => ?_
  have := weight_pos (dist A b n) (dist_nonneg A b n) i
  exact_mod_cast this.ne'

/-- The first layer's linear map of the features taken in two parts. -/
def linParts (A : Args) : Fin 256 → Fin 8 → Fin 4096 → EReal := linear0 A (interpParts A)

theorem linParts_alike (A : Args) (o : Fin 256) (b : Fin 8) (n : Fin 4096) : Alike (linParts A o b n) (lin0 A o b n) :=
  ((Alike.sum _ _ fun c => (interpParts_alike A b n c).mul_right _).add (.refl _)).add (.refl _)

/-- The first layer is the same of either. -/
theorem layer0_parts (A : Args) (o : Fin 256) (b : Fin 8) (n : Fin 4096) :
    normRelu (linParts A o) (A.g0 o) (A.be0 o) b n = layer0 A o b n :=
  normRelu_congr _ _ (linParts_alike A o) _ _ b n

end Cert.Spec

end
-- ==== Proof.Reals.lean ====
/-
  The extended-real operations on real numbers: each is the real operation, under the condition that makes it finite.
  Also the constants of the two programs as real numbers.
-/
module

public import proofs.«01_k».proof.Proof.Spec

@[expose] public section

noncomputable section

namespace Cert.Reals

open Idealize.ShloMosaic Cert.Spec

theorem div_real (x y : ℝ) (h : y ≠ 0) : Ideal.div (x : EReal) (y : EReal) = ((x / y : ℝ) : EReal) := by
  rw [Ideal.div_coe h, ← EReal.coe_mul]
  congr 1
  ring

theorem sqrt_real (r : ℝ) (h : 0 ≤ r) : Ideal.sqrt (r : EReal) = ((Real.sqrt r : ℝ) : EReal) := by
  rw [Ideal.sqrt_coe, if_neg (not_lt.mpr h)]

theorem sum_real {ι : Type} [Fintype ι] (f : ι → ℝ) : ∑ i, (f i : EReal) = ((∑ i, f i : ℝ) : EReal) := by
  classical
  induction (Finset.univ : Finset ι) using Finset.induction_on with
  | empty => simp
  | insert a s ha ih => rw [Finset.sum_insert ha, Finset.sum_insert ha, ih, EReal.coe_add]

theorem word_two : Ideal.ofBits .f32 1073741824#32 = ((2 : ℝ) : EReal) := by
  simp [Ideal.ofBits, Ideal.ieee, -EReal.coe_mul]; norm_num

theorem word_eps8 : Ideal.ofBits .f32 841731191#32 = (eps8 : EReal) := by
  simp [Ideal.ofBits, Ideal.ieee, eps8, -EReal.coe_mul]; norm_num

theorem word_eps5 : Ideal.ofBits .f32 925353388#32 = (eps5 : EReal) := by
  simp [Ideal.ofBits, Ideal.ieee, eps5, -EReal.coe_mul]; norm_num

theorem word_inf : Ideal.ofBits .f32 2139095040#32 = ⊤ := by
  simp [Ideal.ofBits, Ideal.ieee]

theorem word_inv_count : Ideal.ofBits .f32 939524096#32 = ((1 / 32768 : ℝ) : EReal) := by
  simp [Ideal.ofBits, Ideal.ieee, -EReal.coe_mul]; norm_num

theorem word_count : Ideal.ofBits .f32 1191182336#32 = ((32768 : ℝ) : EReal) := by
  simp [Ideal.ofBits, Ideal.ieee, -EReal.coe_mul]; norm_num

end Cert.Reals

end
-- ==== Proof.Block0.lean ====
/-
  What the body of the first `pallas_call` computes of one grid point's blocks, at an index: the distances and the
  weights along a row, as real numbers of real points, and the block of the first linear map.
-/
module

public import proofs.«01_k».proof.Proof.Gen.KernelIdeal.Skeleton
public import proofs.«01_k».proof.Proof.Reals

@[expose] public section

set_option maxRecDepth 16384

noncomputable section

namespace Cert.Block0

open Idealize.ShloMosaic Cert.KernelIdeal Cert.KernelIdeal.Gen Cert.Spec Cert.Select Cert.Reals

/-! ## The stages of a round, on a whole block of rows -/

/-- Each row's minimum, as a column. -/
def minCol (d : FVec Ideal S2048x1024 .f32) : FVec Ideal S2048x1 .f32 :=
  shapeCast S2048x1 (multiReduction .minimumf [1] S2048 d 0x7F800000#32 reduces_S2048x1024_S2048 (.inl rfl) rfl)
    shapeCasts_S2048_S2048x1

/-- Each row's lowest index at which `m` stands, along the row. -/
def argBlock (d : FVec Ideal S2048x1024 .f32) (m : FVec Ideal S2048x1 .f32) : IVec S2048x1024 32 :=
  broadcastTo S2048x1024
    (shapeCast S2048x1
      (multiReductionI .minsi [1] S2048
        (select (cmpf .oeq d (broadcastTo S2048x1024 m broadcasts_S2048x1_S2048x1024))
          (iota .tc S2048x1024 32 [1] iota_S2048x1024_d1_w32) (broadcast S2048x1024 1024#32))
        2147483647#32 reduces_S2048x1024_S2048 rfl)
      shapeCasts_S2048_S2048x1)
    broadcasts_S2048x1_S2048x1024

/-- The block with the entry at each row's index `j` replaced by +∞. -/
def markBlock (d : FVec Ideal S2048x1024 .f32) (j : IVec S2048x1024 32) : FVec Ideal S2048x1024 .f32 :=
  select (cmpi .eq (iota .tc S2048x1024 32 [1] iota_S2048x1024_d1_w32) j)
    (broadcast S2048x1024 (Scalar.ofBits .f32 0x7F800000#32 : Ideal .f32)) d

/-- The inverse of a column of distances. -/
def invCol (m : FVec Ideal S2048x1 .f32) : FVec Ideal S2048x1 .f32 :=
  divf (broadcast S2048x1 (Scalar.ofBits .f32 0x3F800000#32 : Ideal .f32))
    (addf m (broadcast S2048x1 (Scalar.ofBits .f32 0x322BCC77#32 : Ideal .f32)))

/-- The weights: where `d'` differs from `d`, the inverse of `d` over the sum of the columns' inverses. -/
def weightBlock (d d' : FVec Ideal S2048x1024 .f32) (m0 m1 m2 : FVec Ideal S2048x1 .f32) : FVec Ideal S2048x1024 .f32 :=
  select (cmpf .one d' d)
    (divf (divf (broadcast S2048x1024 (Scalar.ofBits .f32 0x3F800000#32 : Ideal .f32))
        (addf d (broadcast S2048x1024 (Scalar.ofBits .f32 0x322BCC77#32 : Ideal .f32))))
      (broadcastTo S2048x1024 (addf (addf (invCol m0) (invCol m1)) (invCol m2)) broadcasts_S2048x1_S2048x1024))
    (broadcast S2048x1024 (Scalar.ofBits .f32 0x00000000#32 : Ideal .f32))

theorem select_eq (a b : BitVec 32) (x y : EReal) :
    Scalar.select (IntOp.cmpi .eq a b) x y = if a = b then x else y := by
  unfold Scalar.select IntOp.cmpi
  by_cases h : a = b
  · subst h; simp
  · have hb : (a == b) = false := beq_eq_false_iff_ne.mpr h
    simp [h, hb]

theorem minCol_apply (d : FVec Ideal S2048x1024 .f32) (r : Fin 2048) :
    minCol d (ix2 r 0) = rowMin fun p => d (ix2 r p) := by
  pointwise [minCol]
  rw [word_inf]
  rfl

theorem argBlock_apply (d : FVec Ideal S2048x1024 .f32) (m : FVec Ideal S2048x1 .f32) (r : Fin 2048) (p : Fin 1024)
    (hm : m (ix2 r 0) = rowMin fun p => d (ix2 r p)) :
    argBlock d m (ix2 r p) = rowArg fun p => d (ix2 r p) := by
  pointwise [argBlock]
  rw [hm]
  rfl

theorem markBlock_apply (d : FVec Ideal S2048x1024 .f32) (j : IVec S2048x1024 32) (r : Fin 2048) (p : Fin 1024)
    (hj : j (ix2 r p) = rowArg fun p => d (ix2 r p)) :
    markBlock d j (ix2 r p) = mark (fun p => d (ix2 r p)) p := by
  pointwise [markBlock]
  rw [word_inf, select_eq, hj]
  rfl

theorem invCol_apply (m : FVec Ideal S2048x1 .f32) (r : Fin 2048) (x : ℝ) (hx : 0 ≤ x) (hm : m (ix2 r 0) = (x : EReal)) :
    invCol m (ix2 r 0) = ((1 / (x + eps8) : ℝ) : EReal) := by
  pointwise [invCol]
  rw [hm, word_eps8, ← EReal.coe_add, ← EReal.coe_one, div_real _ _ (add_pos_of_nonneg_of_pos hx eps8_pos).ne']

theorem weightBlock_apply (d d' : FVec Ideal S2048x1024 .f32) (m0 m1 m2 : FVec Ideal S2048x1 .f32)
    (f : Fin 1024 → ℝ) (hf : ∀ p, 0 ≤ f p) (r : Fin 2048) (hd : ∀ p, d (ix2 r p) = (f p : EReal))
    (h0 : m0 (ix2 r 0) = (f (nearest f 0) : EReal)) (h1 : m1 (ix2 r 0) = (f (nearest f 1) : EReal))
    (h2 : m2 (ix2 r 0) = (f (nearest f 2) : EReal)) (p : Fin 1024)
    (hd' : d' (ix2 r p) ≠ d (ix2 r p) ↔ ∃ i, nearest f i = p) :
    weightBlock d d' m0 m1 m2 (ix2 r p) = (rowWeight f p : EReal) := by
  classical
  have e0 := invCol_apply m0 r _ (hf _) h0
  have e1 := invCol_apply m1 r _ (hf _) h1
  have e2 := invCol_apply m2 r _ (hf _) h2
  have hs : 1 / (f (nearest f 0) + eps8) + 1 / (f (nearest f 1) + eps8) + 1 / (f (nearest f 2) + eps8) = invSum f := by
    unfold invSum invDist
    rw [Fin.sum_univ_three]
  pointwise [weightBlock]
  rw [e0, e1, e2, ← EReal.coe_add, ← EReal.coe_add, hs]
  unfold rowWeight
  by_cases h : ∃ i, nearest f i = p
  · rw [if_pos h, if_pos (hd'.mpr h), hd p, word_eps8, ← EReal.coe_add, ← EReal.coe_one,
      div_real _ _ (add_pos_of_nonneg_of_pos (hf p) eps8_pos).ne', div_real _ _ (invSum_pos f hf).ne']
  · rw [if_neg h, if_neg (fun h' => h (hd'.mp h'))]
    rfl

/-! ## The block's distances and weights -/

variable (v0 : Vec Ideal S1x2048x3 .f32) (v2 : Vec Ideal S1x3x1024 .f32) (v4 : Vec Ideal S1x2048x1 .f32)
  (v6 : Vec Ideal S1x1x1024 .f32)

/-- The block of distances is the squared distance, point by point. -/
theorem dist_apply (u : Fin 2048 → Fin 3 → ℝ) (v : Fin 1024 → Fin 3 → ℝ)
    (h0 : ∀ r k, v0 (ix3 0 r k) = (u r k : EReal)) (h2 : ∀ k p, v2 (ix3 0 k p) = (v p k : EReal))
    (h4 : ∀ r, v4 (ix3 0 r 0) = ((∑ k, u r k * u r k : ℝ) : EReal))
    (h6 : ∀ p, v6 (ix3 0 0 p) = ((∑ k, v p k * v p k : ℝ) : EReal)) (r : Fin 2048) (p : Fin 1024) :
    k0_pay2 (F := Ideal) v0 v2 v4 v6 (ix2 r p) = (sqdist (u r) (v p) : EReal) := by
  pointwise [k0_pay2]
  simp only [h0, h2, h4, h6, word_two, ← EReal.coe_mul, sum_real, ← EReal.coe_add, ← EReal.coe_sub]
  rfl

/-- The block of weights. -/
def weights : FVec Ideal S2048x1024 .f32 :=
  k0_pay7 (F := Ideal) (k0_pay2 v0 v2 v4 v6) (iota .tc S2048x1024 32 [1] iota_S2048x1024_d1_w32) (k0_pay3 v0 v2 v4 v6)
    (k0_pay4 v0 v2 v4 v6) (k0_pay5 v0 v2 v4 v6) (k0_pay6 v0 v2 v4 v6)

theorem pay3_eq : k0_pay3 (F := Ideal) v0 v2 v4 v6 = minCol (k0_pay2 v0 v2 v4 v6) := rfl
theorem pay4_eq : k0_pay4 (F := Ideal) v0 v2 v4 v6
    = markBlock (k0_pay2 v0 v2 v4 v6) (argBlock (k0_pay2 v0 v2 v4 v6) (k0_pay3 v0 v2 v4 v6)) := rfl
theorem pay5_eq : k0_pay5 (F := Ideal) v0 v2 v4 v6 = minCol (k0_pay4 v0 v2 v4 v6) := rfl
theorem pay6_eq : k0_pay6 (F := Ideal) v0 v2 v4 v6 = argBlock (k0_pay4 v0 v2 v4 v6) (k0_pay5 v0 v2 v4 v6) := rfl
theorem pay7_eq (d d1 : FVec Ideal S2048x1024 .f32) (m0 m1 : FVec Ideal S2048x1 .f32) (j : IVec S2048x1024 32) :
    k0_pay7 (F := Ideal) d (iota .tc S2048x1024 32 [1] iota_S2048x1024_d1_w32) m0 d1 m1 j
      = weightBlock d (markBlock (markBlock d1 j) (argBlock (markBlock d1 j) (minCol (markBlock d1 j)))) m0 m1
        (minCol (markBlock d1 j)) := rfl

/-- Of a row of real distances, none negative, the weights are the weights of the three nearest laid along the row. -/
theorem weights_apply (f : Fin 1024 → ℝ) (hf : ∀ p, 0 ≤ f p) (r : Fin 2048)
    (h : ∀ p, k0_pay2 (F := Ideal) v0 v2 v4 v6 (ix2 r p) = (f p : EReal)) (p : Fin 1024) :
    weights v0 v2 v4 v6 (ix2 r p) = (rowWeight f p : EReal) := by
  have hr := rounds_nearest f (fun p => k0_pay2 (F := Ideal) v0 v2 v4 v6 (ix2 r p)) h
  unfold weights
  rw [pay7_eq, pay6_eq, pay5_eq, pay4_eq, pay3_eq]
  generalize k0_pay2 (F := Ideal) v0 v2 v4 v6 = d at h hr ⊢
  obtain ⟨m0, m1, m2, hne⟩ := hr
  have a0 := fun q => argBlock_apply d (minCol d) r q (minCol_apply d r)
  have k0 := fun q => markBlock_apply d _ r q (a0 q)
  generalize markBlock d (argBlock d (minCol d)) = d1 at k0 ⊢
  have k0' : (fun q => d1 (ix2 r q)) = mark fun p => d (ix2 r p) := funext k0
  have a1 := fun q => argBlock_apply d1 (minCol d1) r q (minCol_apply d1 r)
  have k1 := fun q => markBlock_apply d1 _ r q (a1 q)
  generalize markBlock d1 (argBlock d1 (minCol d1)) = d2 at k1 ⊢
  have k1' : (fun q => d2 (ix2 r q)) = mark (mark fun p => d (ix2 r p)) := by rw [funext k1, k0']
  have a2 := fun q => argBlock_apply d2 (minCol d2) r q (minCol_apply d2 r)
  have k2 := fun q => markBlock_apply d2 _ r q (a2 q)
  generalize markBlock d2 (argBlock d2 (minCol d2)) = d3 at k2 ⊢
  have k2' : d3 (ix2 r p) = mark (mark (mark fun p => d (ix2 r p))) p := by rw [k2, k1']
  refine weightBlock_apply d d3 _ _ _ f hf r h ?_ ?_ ?_ p ?_
  · rw [minCol_apply, m0]
  · rw [minCol_apply, k0', m1]
  · rw [minCol_apply, k1', m2]
  · rw [k2']
    exact hne p

/-! ## The block of the first linear map -/

/-- Rounding to the shorter format and back: over the extended reals, nothing. -/
def short (w : FVec Ideal S2048x1024 .f32) : FVec Ideal S2048x1024 .f32 :=
  extf .f32 (truncf .bf16 w bitsLt_bf16_f32) bitsLt_bf16_f32

theorem short_apply (w : FVec Ideal S2048x1024 .f32) (i : S2048x1024.Idx) : short w i = w i := rfl

theorem pay9_eq (d d1 : FVec Ideal S2048x1024 .f32) (c : IVec S2048x1024 32) (m0 m1 : FVec Ideal S2048x1 .f32)
    (j : IVec S2048x1024 32) : k0_pay9 (F := Ideal) d c m0 d1 m1 j = short (k0_pay7 (F := Ideal) d c m0 d1 m1 j) := by
  unfold k0_pay9 short
  with_reducible rfl

theorem pay10_eq (d d1 : FVec Ideal S2048x1024 .f32) (c : IVec S2048x1024 32) (m0 m1 : FVec Ideal S2048x1 .f32)
    (j : IVec S2048x1024 32) : k0_pay10 (F := Ideal) d c m0 d1 m1 j
      = subf (k0_pay7 (F := Ideal) d c m0 d1 m1 j) (k0_pay9 (F := Ideal) d c m0 d1 m1 j) := by
  unfold k0_pay10
  with_reducible rfl

theorem pay8_apply (x : Vec Ideal S1x256x1024 .f32) (c : Fin 256) (p : Fin 1024) :
    k0_pay8 (F := Ideal) x (ix2 c p) = x (ix3 0 c p) := by
  pointwise [k0_pay8]

/-- The block of the first linear map: the weighted features, in two parts, through the first 256 columns of the matrix,
    the point's own through the last 128, and the bias. -/
theorem lin_apply (v76 : FVec Ideal S256x1024 .f32) (v78 v79 : FVec Ideal S2048x1024 .f32) (v88 : Vec Ideal S256x256 .f32)
    (v90 : Vec Ideal S1x128x2048 .f32) (v92 : Vec Ideal S256x128 .f32) (v95 : Vec Ideal S1x256 .f32) (r : Fin 2048)
    (w : Fin 1024 → EReal) (x : Fin 256 → Fin 1024 → EReal) (a : Fin 256 → Fin 256 → EReal) (y : Fin 128 → EReal)
    (a' : Fin 256 → Fin 128 → EReal) (b : Fin 256 → EReal)
    (h76 : ∀ c p, v76 (ix2 c p) = x c p) (h78 : ∀ p, v78 (ix2 r p) = w p)
    (h79 : ∀ p, v79 (ix2 r p) = 0) (h88 : ∀ o c, v88 (ix2 o c) = a o c)
    (h90 : ∀ c, v90 (ix3 0 c r) = y c) (h92 : ∀ o c, v92 (ix2 o c) = a' o c)
    (h95 : ∀ o, v95 (ix2 0 o) = b o) (o : Fin 256) :
    k0_pay11 (F := Ideal) v76 v78 v79 v88 v90 v92 v95 (ix2 r o)
      = (∑ c, ((∑ p, w p * (x c p - x c p)) + ∑ p, w p * x c p) * a o c) + (∑ c, y c * a' o c) + b o := by
  pointwise [k0_pay11]
  simp only [h76, h78, h79, h88, h90, h92, h95, zero_mul, Finset.sum_const_zero, zero_add, add_zero]

/-- The block stored is the linear map's, with a leading axis of length one. -/
theorem pay12_apply (v76 : FVec Ideal S256x1024 .f32) (v78 v79 : FVec Ideal S2048x1024 .f32) (v88 : Vec Ideal S256x256 .f32)
    (v90 : Vec Ideal S1x128x2048 .f32) (v92 : Vec Ideal S256x128 .f32) (v95 : Vec Ideal S1x256 .f32) (r : Fin 2048)
    (o : Fin 256) : k0_pay12 (F := Ideal) v76 v78 v79 v88 v90 v92 v95 (ix3 0 r o)
      = k0_pay11 (F := Ideal) v76 v78 v79 v88 v90 v92 v95 (ix2 r o) := by
  pointwise [k0_pay12]

theorem pay13_apply (o : Fin 256) : k0_pay13 (F := Ideal) (ix2 0 o) = 0 := by
  pointwise [k0_pay13]

theorem pay14_apply (o : Fin 256) : k0_pay14 (F := Ideal) (ix2 0 o) = 0 := by
  pointwise [k0_pay14]

/-- The sums after a block: those before it and the block's columns' sums. -/
theorem pay15_apply (v76 : FVec Ideal S256x1024 .f32) (v78 v79 : FVec Ideal S2048x1024 .f32) (v88 : Vec Ideal S256x256 .f32)
    (v90 : Vec Ideal S1x128x2048 .f32) (v92 : Vec Ideal S256x128 .f32) (v95 v107 : Vec Ideal S1x256 .f32) (o : Fin 256) :
    k0_pay15 (F := Ideal) v76 v78 v79 v88 v90 v92 v95 v107 (ix2 0 o)
      = v107 (ix2 0 o) + ∑ r, k0_pay11 (F := Ideal) v76 v78 v79 v88 v90 v92 v95 (ix2 r o) := by
  pointwise [k0_pay15]

/-- The sums of squares after a block. -/
theorem pay1_apply (v98 : FVec Ideal S2048x256 .f32) (v113 : Vec Ideal S1x256 .f32) (o : Fin 256) :
    k0_pay1 (F := Ideal) v98 v113 (ix2 0 o) = v113 (ix2 0 o) + ∑ r, v98 (ix2 r o) * v98 (ix2 r o) := by
  pointwise [k0_pay1]

end Cert.Block0

end
-- ==== Proof.Region0.lean ====
/-
  What the first `pallas_call` leaves in its three result arrays, of arguments with real points: the first
  linear map, of the features taken in two parts, its sums over batches and points, and its sums of squares.
-/
module

public import proofs.«01_k».proof.Proof.Gen.KernelIdeal.Frame
public import proofs.«01_k».proof.Proof.Block0
public import Idealize.ShloMosaic.Lib.Pipeline.ValueKit

@[expose] public section

set_option maxRecDepth 16384

noncomputable section

namespace Cert.Region0

open Idealize.ShloMosaic Idealize.ShloMosaic.TcCoe Cert.KernelIdeal Cert.KernelIdeal.Gen Cert.Spec Cert.Select Cert.Reals

variable (V : (c : Dev nD) → (b : Ref sig .tc) → Buf (Elt Ideal) ((c : Thread nD τ).loc b)) (A : Args) (c : Dev nD)

/-- The arrays the call reads hold the argument `A` and what is computed of it before the call. -/
structure Holds : Prop where
  xyz1 : ∀ b n k, V c main_arg0 (ix3 b n k) = (A.xyz1 b n k : EReal)
  xyz2 : ∀ b k p, V c main_v0 (ix3 b k p) = (A.xyz2 b p k : EReal)
  sq1 : ∀ b n, V c main_v3 (ix3 b n 0) = ((∑ k, A.xyz1 b n k * A.xyz1 b n k : ℝ) : EReal)
  sq2 : ∀ b p, V c main_v6 (ix3 b 0 p) = ((∑ k, A.xyz2 b p k * A.xyz2 b p k : ℝ) : EReal)
  feat1 : ∀ b k n, V c main_arg2 (ix3 b k n) = A.feat1 b k n
  feat2 : ∀ b k p, V c main_arg3 (ix3 b k p) = A.feat2 b k p
  weight : ∀ o k, V c main_arg4 (ix2 o k) = A.W0 o k
  bias : ∀ o, V c main_v7 (ix2 0 o) = A.b0 o

/-- The batch a grid point works on. -/
def batch (t : Fin cfg0.N) : Fin 8 := ⟨t.val / 2, by have := t.isLt.trans_eq N_0; omega⟩

/-- The array's row at row `r` of a grid point's block. -/
def row (t : Fin cfg0.N) (r : Fin 2048) : Fin 4096 := ⟨t.val % 2 * 2048 + r.val, by omega⟩

theorem idx0 : ∀ t : Fin cfg0.N, win0_0.index t = ![t.val / 2, t.val % 2, 0] := (by decide +kernel : ∀ t : Fin grid0.N, _)
theorem idx1 : ∀ t : Fin cfg0.N, win0_1.index t = ![t.val / 2, 0, 0] := (by decide +kernel : ∀ t : Fin grid0.N, _)
theorem idx2 : ∀ t : Fin cfg0.N, win0_2.index t = ![t.val / 2, t.val % 2, 0] := (by decide +kernel : ∀ t : Fin grid0.N, _)
theorem idx3 : ∀ t : Fin cfg0.N, win0_3.index t = ![t.val / 2, 0, 0] := (by decide +kernel : ∀ t : Fin grid0.N, _)
theorem idx4 : ∀ t : Fin cfg0.N, win0_4.index t = ![t.val / 2, 0, t.val % 2] := (by decide +kernel : ∀ t : Fin grid0.N, _)
theorem idx5 : ∀ t : Fin cfg0.N, win0_5.index t = ![t.val / 2, 0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val / 2, t.val % 2, 0] := (by decide +kernel : ∀ t : Fin grid0.N, _)

theorem blk0 (t : Fin cfg0.N) (r : Fin 2048) (k : Fin 3) :
    iblk0 V c 0 t (ix3 0 r k) = V c main_arg0 (ix3 (batch t) (row t r) k) := by
  blk_simp [iblk0]
  congr 1
  blk_ext [idx0 t, batch, row]

theorem blk1 (t : Fin cfg0.N) (k : Fin 3) (p : Fin 1024) :
    iblk0 V c 1 t (ix3 0 k p) = V c main_v0 (ix3 (batch t) k p) := by
  blk_simp [iblk0]
  congr 1
  blk_ext [idx1 t, batch]

theorem blk2 (t : Fin cfg0.N) (r : Fin 2048) :
    iblk0 V c 2 t (ix3 0 r 0) = V c main_v3 (ix3 (batch t) (row t r) 0) := by
  blk_simp [iblk0]
  congr 1
  blk_ext [idx2 t, batch, row]

theorem blk3 (t : Fin cfg0.N) (p : Fin 1024) :
    iblk0 V c 3 t (ix3 0 0 p) = V c main_v6 (ix3 (batch t) 0 p) := by
  blk_simp [iblk0]
  congr 1
  blk_ext [idx3 t, batch]

theorem blk4 (t : Fin cfg0.N) (k : Fin 128) (r : Fin 2048) :
    iblk0 V c 4 t (ix3 0 k r) = V c main_arg2 (ix3 (batch t) k (row t r)) := by
  blk_simp [iblk0]
  congr 1
  blk_ext [idx4 t, batch, row]

theorem blk5 (t : Fin cfg0.N) (k : Fin 256) (p : Fin 1024) :
    iblk0 V c 5 t (ix3 0 k p) = V c main_arg3 (ix3 (batch t) k p) := by
  blk_simp [iblk0]
  congr 1
  blk_ext [idx5 t, batch]

theorem blk6 (t : Fin cfg0.N) (o : Fin 256) (k : Fin 384) :
    iblk0 V c 6 t (ix2 o k) = V c main_arg4 (ix2 o k) := by
  blk_simp [iblk0]
  congr 1
  blk_ext [idx6 t]

theorem blk7 (t : Fin cfg0.N) (o : Fin 256) :
    iblk0 V c 7 t (ix2 0 o) = V c main_v7 (ix2 0 o) := by
  blk_simp [iblk0]
  congr 1
  blk_ext [idx7 t]

/-- The block of the first linear map at a grid point, without the leading axis of length one. -/
def zBlock (t : Fin cfg0.N) : FVec Ideal S2048x256 .f32 :=
  k0_pay11 (k0_pay8 (iblk0 V c 5 t))
    (k0_pay9 (k0_pay2 (iblk0 V c 0 t) (iblk0 V c 1 t) (iblk0 V c 2 t) (iblk0 V c 3 t))
      (iota Kind.tc S2048x1024 32 [1] iota_S2048x1024_d1_w32)
      (k0_pay3 (iblk0 V c 0 t) (iblk0 V c 1 t) (iblk0 V c 2 t) (iblk0 V c 3 t))
      (k0_pay4 (iblk0 V c 0 t) (iblk0 V c 1 t) (iblk0 V c 2 t) (iblk0 V c 3 t))
      (k0_pay5 (iblk0 V c 0 t) (iblk0 V c 1 t) (iblk0 V c 2 t) (iblk0 V c 3 t))
      (k0_pay6 (iblk0 V c 0 t) (iblk0 V c 1 t) (iblk0 V c 2 t) (iblk0 V c 3 t)))
    (k0_pay10 (k0_pay2 (iblk0 V c 0 t) (iblk0 V c 1 t) (iblk0 V c 2 t) (iblk0 V c 3 t))
      (iota Kind.tc S2048x1024 32 [1] iota_S2048x1024_d1_w32)
      (k0_pay3 (iblk0 V c 0 t) (iblk0 V c 1 t) (iblk0 V c 2 t) (iblk0 V c 3 t))
      (k0_pay4 (iblk0 V c 0 t) (iblk0 V c 1 t) (iblk0 V c 2 t) (iblk0 V c 3 t))
      (k0_pay5 (iblk0 V c 0 t) (iblk0 V c 1 t) (iblk0 V c 2 t) (iblk0 V c 3 t))
      (k0_pay6 (iblk0 V c 0 t) (iblk0 V c 1 t) (iblk0 V c 2 t) (iblk0 V c 3 t)))
    (View.ld (iblk0 V c 6 t) (Rect.unit ![0, 0] ![256, 256] inb_S256x384_S256x256_0_0)) (iblk0 V c 4 t)
    (View.ld (iblk0 V c 6 t) (Rect.unit ![0, 256] ![256, 128] inb_S256x384_S256x128_0_256)) (iblk0 V c 7 t)

variable {V A c}

/-- The distances at a grid point. -/
theorem dist_block (h : Holds V A c) (t : Fin cfg0.N) (r : Fin 2048) (p : Fin 1024) :
    k0_pay2 (F := Ideal) (iblk0 V c 0 t) (iblk0 V c 1 t) (iblk0 V c 2 t) (iblk0 V c 3 t) (ix2 r p)
      = (dist A (batch t) (row t r) p : EReal) :=
  Block0.dist_apply _ _ _ _ (fun r k => A.xyz1 (batch t) (row t r) k) (fun p k => A.xyz2 (batch t) p k)
    (fun r k => (blk0 V c t r k).trans (h.xyz1 _ _ _)) (fun k p => (blk1 V c t k p).trans (h.xyz2 _ _ _))
    (fun r => (blk2 V c t r).trans (h.sq1 _ _)) (fun p => (blk3 V c t p).trans (h.sq2 _ _)) r p

theorem subf_short (w : FVec Ideal S2048x1024 .f32) (i : S2048x1024.Idx) (x : ℝ) (h : w i = (x : EReal)) :
    subf w (Block0.short w) i = 0 := by
  show w i - w i = 0
  rw [h, ← EReal.coe_sub, sub_self, EReal.coe_zero]

/-- The block of the first linear map is the first linear layer at the block's batch and points. -/
theorem zBlock_apply (h : Holds V A c) (t : Fin cfg0.N) (r : Fin 2048) (o : Fin 256) :
    zBlock V c t (ix2 r o) = linParts A o (batch t) (row t r) := by
  have hw := Block0.weights_apply _ _ _ _ (dist A (batch t) (row t r)) (dist_nonneg A _ _) r (dist_block h t r)
  have hl := Block0.lin_apply (k0_pay8 (iblk0 V c 5 t)) (Block0.short (Block0.weights (iblk0 V c 0 t) (iblk0 V c 1 t) (iblk0 V c 2 t) (iblk0 V c 3 t)))
    (subf (Block0.weights (iblk0 V c 0 t) (iblk0 V c 1 t) (iblk0 V c 2 t) (iblk0 V c 3 t)) (Block0.short (Block0.weights (iblk0 V c 0 t) (iblk0 V c 1 t) (iblk0 V c 2 t) (iblk0 V c 3 t))))
    (View.ld (iblk0 V c 6 t) (Rect.unit ![0, 0] ![256, 256] inb_S256x384_S256x256_0_0)) (iblk0 V c 4 t)
    (View.ld (iblk0 V c 6 t) (Rect.unit ![0, 256] ![256, 128] inb_S256x384_S256x128_0_256)) (iblk0 V c 7 t) r
    (fun p => (rowWeight (dist A (batch t) (row t r)) p : EReal)) (A.feat2 (batch t)) (fun o k => A.W0 o (Fin.castAdd 128 k))
    (fun k => A.feat1 (batch t) k (row t r)) (fun o k => A.W0 o (Fin.natAdd 256 k)) A.b0
    (fun k p => (Block0.pay8_apply _ k p).trans ((blk5 V c t k p).trans (h.feat2 _ _ _)))
    (fun p => (Block0.short_apply _ _).trans (hw p))
    (fun p => subf_short _ _ _ (hw p))
    (fun o k => (View.ld_unit_apply_of _ _ _ _ _ (ix2 o (Fin.castAdd 128 k)) (fun a => by fin_cases a <;> simp)).trans
      ((blk6 V c t _ _).trans (h.weight _ _)))
    (fun k => (blk4 V c t k r).trans (h.feat1 _ _ _))
    (fun o k => (View.ld_unit_apply_of _ _ _ _ _ (ix2 o (Fin.natAdd 256 k)) (fun a => by fin_cases a <;> simp)).trans
      ((blk6 V c t _ _).trans (h.weight _ _)))
    (fun o => (blk7 V c t o).trans (h.bias _)) o
  unfold zBlock
  rw [Block0.pay10_eq, Block0.pay9_eq]
  exact hl

/-- The first result's block at a grid point. -/
theorem out8 (t : Fin cfg0.N) (r : Fin 2048) (o : Fin 256) :
    (outsAt0 V c t.val t.isLt).1 (ix3 0 r o) = zBlock V c t (ix2 r o) := by
  by_cases h0 : t.val % 16 = 0
  · rw [outsAt0_A V c t h0]; frame_out
    rw [Block0.pay12_apply]; rfl
  · rw [outsAt0_B V c t h0]; frame_out
    rw [Block0.pay12_apply]; rfl

/-- The sums after the last grid point. -/
theorem out9 (o : Fin 256) :
    (outsAt0 V c t0_15.val t0_15.isLt).2.1 (ix2 0 o) = ∑ t, ∑ r, zBlock V c t (ix2 r o) := by
  rw [Pipeline.eq_sum_fin_of_reset_step_apply_last (fun n h => (outsAt0 V c n h).2.1) 16 (fun _ => 0)
    (fun t j => ∑ r, zBlock V c t (ix2 r (j 1)))
    (fun t h j => by
      rw [outsAt0_A V c t h]; frame_out
      obtain ⟨a, o, rfl⟩ : ∃ a o, j = ix2 a o := ⟨_, _, (ix2_eta j).symm⟩
      obtain rfl : a = 0 := Subsingleton.elim _ _
      rw [Block0.pay15_apply, Block0.pay13_apply]; rfl)
    (fun t h j => by
      rw [outsAt0_B V c t h]; frame_out
      obtain ⟨a, o, rfl⟩ : ∃ a o, j = ix2 a o := ⟨_, _, (ix2_eta j).symm⟩
      obtain rfl : a = 0 := Subsingleton.elim _ _
      rw [Block0.pay15_apply]; rfl)
    (le_of_eq N_0) t0_15 rfl (ix2 0 o), zero_add]
  rfl

/-- The sums of squares after the last grid point. -/
theorem out10 (o : Fin 256) :
    (outsAt0 V c t0_15.val t0_15.isLt).2.2 (ix2 0 o) = ∑ t, ∑ r, zBlock V c t (ix2 r o) * zBlock V c t (ix2 r o) := by
  rw [Pipeline.eq_sum_fin_of_reset_step_apply_last (fun n h => (outsAt0 V c n h).2.2) 16 (fun _ => 0)
    (fun t j => ∑ r, zBlock V c t (ix2 r (j 1)) * zBlock V c t (ix2 r (j 1)))
    (fun t h j => by
      rw [outsAt0_A V c t h]; frame_out
      obtain ⟨a, o, rfl⟩ : ∃ a o, j = ix2 a o := ⟨_, _, (ix2_eta j).symm⟩
      obtain rfl : a = 0 := Subsingleton.elim _ _
      rw [Block0.pay1_apply, Block0.pay14_apply]; rfl)
    (fun t h j => by
      rw [outsAt0_B V c t h]; frame_out
      obtain ⟨a, o, rfl⟩ : ∃ a o, j = ix2 a o := ⟨_, _, (ix2_eta j).symm⟩
      obtain rfl : a = 0 := Subsingleton.elim _ _
      rw [Block0.pay1_apply]; rfl)
    (le_of_eq N_0) t0_15 rfl (ix2 0 o), zero_add]
  rfl

/-- A sum over grid points and rows of a block is the sum over batches and points. -/
theorem sum_blocks (f : Fin 8 → Fin 4096 → EReal) : ∑ t : Fin cfg0.N, ∑ r, f (batch t) (row t r) = ∑ b, ∑ n, f b n :=
  Fin.sum_points_lanes_congr 2 (fun _ _ _ _ => rfl) (hN := N_0)

/-- The first result: the first linear map. -/
theorem arr8 (h : Holds V A c) (b : Fin 8) (n : Fin 4096) (o : Fin 256) :
    (dat0 V c).arrAt 8 cfg0.N (ix3 b n o) = linParts A o b n := by
  have : (dat0 V c).arrAt 8 cfg0.N = fun i => linParts A (i 2) (i 0) (i 1) := by
    refine (dat0 V c).arrAt_eq_of_covers 8 _ (by decide +kernel) fun t hf y => ?_
    blk_simp
    rw [after0_8]
    obtain ⟨a, r, o, rfl⟩ : ∃ a r o, y = ix3 a r o := ⟨_, _, _, (ix3_eta y).symm⟩
    obtain rfl : a = 0 := Subsingleton.elim _ _
    refine (out8 t r o).trans ((zBlock_apply h t r o).trans ?_)
    have e0 : batch t = ((win0_8.blk t).view.emb (ix3 0 r o)) 0 := by ext; blk_simp [idx8 t, batch]; rfl
    have e1 : row t r = ((win0_8.blk t).view.emb (ix3 0 r o)) 1 := by ext; blk_simp [idx8 t, row]
    have e2 : o = ((win0_8.blk t).view.emb (ix3 0 r o)) 2 := by ext; blk_simp [idx8 t]
    rw [← e0, ← e1, ← e2]
  exact congrFun this (ix3 b n o)

/-- The second result: the sums over batches and points. -/
theorem arr9 (h : Holds V A c) (o : Fin 256) :
    (dat0 V c).arrAt 9 cfg0.N (ix2 0 o) = total (linParts A o) := by
  refine ((dat0 V c).arrAt_emb_eq_after_last 9 t0_15 (by decide +kernel) (ix2 0 o)).trans ?_
  rw [after0_9]
  refine (out9 o).trans ?_
  simp only [zBlock_apply h]
  exact sum_blocks (linParts A o)

/-- The third result: the sums of squares over batches and points. -/
theorem arr10 (h : Holds V A c) (o : Fin 256) :
    (dat0 V c).arrAt 10 cfg0.N (ix2 0 o) = total (fun b n => linParts A o b n * linParts A o b n) := by
  refine ((dat0 V c).arrAt_emb_eq_after_last 10 t0_15 (by decide +kernel) (ix2 0 o)).trans ?_
  rw [after0_10]
  refine (out10 o).trans ?_
  simp only [zBlock_apply h]
  exact sum_blocks fun b n => linParts A o b n * linParts A o b n

end Cert.Region0

end
-- ==== Proof.Norm.lean ====
/-
  The normalisation of a channel, computed in the two ways the programs do, over the extended reals. One forms a scale
  and a shift from the channel's sum and its sum of squares; the other subtracts the mean and divides by the root of the
  variance. With a finite scale factor both are the specification's, whether the channel's entries are finite or not.
-/
module

public import proofs.«01_k».proof.Proof.Reals

@[expose] public section

noncomputable section

namespace Cert.Norm

open Idealize.ShloMosaic Cert.Spec Cert.Reals Cert.Infinite

theorem total_real (u : Fin 8 → Fin 4096 → ℝ) : total (fun b n => (u b n : EReal)) = ((total u : ℝ) : EReal) := by
  unfold total
  simp only [sum_real]

/-- A channel with an infinite entry has an infinite sum. -/
theorem total_isInf (u : Fin 8 → Fin 4096 → EReal) (b : Fin 8) (n : Fin 4096) (h : IsInf (u b n)) : IsInf (total u) :=
  isInf_sum _ b (isInf_sum _ n h)

/-- A channel with an infinite entry has the sum of squares +∞. -/
theorem total_squares (u : Fin 8 → Fin 4096 → EReal) (b : Fin 8) (n : Fin 4096) (h : IsInf (u b n)) :
    total (fun b n => u b n * u b n) = ⊤ :=
  sum_eq_top _ (fun _ => Finset.sum_nonneg fun _ _ => mul_self_nonneg _) b
    (sum_eq_top _ (fun _ => mul_self_nonneg _) n h.mul_self)

theorem div_infinite (x y : EReal) (h : IsInf y) : Ideal.div x y = 0 := by
  unfold Ideal.div
  rcases h with rfl | rfl <;> simp

/-- A channel whose entries are finite is a real one. -/
theorem eq_real (u : Fin 8 → Fin 4096 → EReal) (h : ¬ ∃ b n, IsInf (u b n)) :
    ∃ r : Fin 8 → Fin 4096 → ℝ, u = fun b n => (r b n : EReal) :=
  ⟨fun b n => (u b n).toReal, funext fun b => funext fun n => eq_coe_of_not_isInf fun e => h ⟨b, n, e⟩⟩

theorem inv_count_ne : ((1 / 32768 : ℝ) : EReal) ≠ 0 := by
  have : (1 / 32768 : ℝ) ≠ 0 := by norm_num
  exact_mod_cast this

theorem top_mul_inv_count : (⊤ : EReal) * ((1 / 32768 : ℝ) : EReal) = ⊤ := EReal.top_mul_coe_of_pos (by norm_num)

/-! ## From the sum and the sum of squares -/

/-- The scale of a channel with sum `s` and sum of squares `ss`. -/
def scale (s ss g : EReal) : EReal :=
  Ideal.div g (Ideal.sqrt (ss * ((1 / 32768 : ℝ) : EReal)
    - s * ((1 / 32768 : ℝ) : EReal) * (s * ((1 / 32768 : ℝ) : EReal)) + (eps5 : EReal)))

/-- An entry scaled and shifted, and cut off below zero. -/
def scaled (s ss g be z : EReal) : EReal :=
  max (z * scale s ss g + (be - s * ((1 / 32768 : ℝ) : EReal) * scale s ss g)) 0

theorem scale_real (r : Fin 8 → Fin 4096 → ℝ) (g : ℝ) :
    scale (total r : ℝ) (total (fun b n => r b n * r b n) : ℝ) g = ((g / Real.sqrt (variance r + eps5) : ℝ) : EReal) := by
  have hp : 0 < variance r + eps5 := add_pos_of_nonneg_of_pos (variance_nonneg r) eps5_pos
  unfold scale
  simp only [← EReal.coe_mul, ← EReal.coe_sub, sums_variance, ← EReal.coe_add]
  rw [sqrt_real _ hp.le, div_real _ _ (Real.sqrt_pos.mpr hp).ne']

theorem scale_infinite (s g : EReal) (h : IsInf s) : scale s ⊤ g = 0 := by
  unfold scale
  rw [(h.mul inv_count_ne).mul_self, top_mul_inv_count]
  have e : (⊤ : EReal) - ⊤ + (eps5 : EReal) = ⊥ := by simp [sub_eq_add_neg]
  rw [e, Ideal.sqrt_bot]
  exact div_infinite _ _ (.inr rfl)

/-- Scale and shift from the two sums give the normalisation. -/
theorem scaled_eq (u : Fin 8 → Fin 4096 → EReal) (g : ℝ) (be : EReal) (b : Fin 8) (n : Fin 4096) :
    scaled (total u) (total fun b n => u b n * u b n) g be (u b n) = normRelu u g be b n := by
  by_cases h : ∃ b n, IsInf (u b n)
  · rw [normRelu_of_isInf u h]
    obtain ⟨b', n', hi⟩ := h
    unfold scaled
    rw [total_squares u b' n' hi, scale_infinite _ _ (total_isInf u b' n' hi), mul_zero, mul_zero, zero_add, sub_zero]
  · obtain ⟨r, rfl⟩ := eq_real u h
    rw [normRelu_coe]
    unfold scaled
    simp only [← EReal.coe_mul, total_real, scale_real]
    rw [sub_eq_add_neg, add_comm be, ← add_assoc, ← EReal.coe_neg, ← EReal.coe_add]
    refine congrArg (fun x : ℝ => max ((x : EReal) + be) 0) ?_
    unfold normal mean
    ring

/-! ## From the mean and the variance -/

/-- The mean of a channel. -/
def meanOf (u : Fin 8 → Fin 4096 → EReal) : EReal := Ideal.div (total u) ((32768 : ℝ) : EReal)

/-- The mean of a channel's squared differences from `m`. -/
def varianceOf (u : Fin 8 → Fin 4096 → EReal) (m : EReal) : EReal :=
  Ideal.div (total fun b n => (u b n - m) * (u b n - m)) ((32768 : ℝ) : EReal)

/-- An entry less the mean `m`, over the root of the variance `v`, scaled, shifted, and cut off below zero. -/
def centred (m v g be z : EReal) : EReal := max (Ideal.div (z - m) (Ideal.sqrt (v + (eps5 : EReal))) * g + be) 0

theorem div_count (x : EReal) : Ideal.div x ((32768 : ℝ) : EReal) = x * ((1 / 32768 : ℝ) : EReal) :=
  Ideal.div_coe (by norm_num) x

/-- Mean and variance give the normalisation. -/
theorem centred_eq (u : Fin 8 → Fin 4096 → EReal) (g : ℝ) (be : EReal) (b : Fin 8) (n : Fin 4096) :
    centred (meanOf u) (varianceOf u (meanOf u)) g be (u b n) = normRelu u g be b n := by
  by_cases h : ∃ b n, IsInf (u b n)
  · rw [normRelu_of_isInf u h]
    obtain ⟨b', n', hi⟩ := h
    have hm : IsInf (meanOf u) := by
      unfold meanOf
      rw [div_count]
      exact (total_isInf u b' n' hi).mul inv_count_ne
    have hv : varianceOf u (meanOf u) = ⊤ := by
      unfold varianceOf
      rw [total_squares (fun b n => u b n - meanOf u) b' n' (hm.sub_right _), div_count, top_mul_inv_count]
    unfold centred
    rw [hv, EReal.top_add_coe, Ideal.sqrt_top, div_infinite _ _ (.inl rfl), zero_mul, zero_add]
  · obtain ⟨r, rfl⟩ := eq_real u h
    rw [normRelu_coe]
    have hp : 0 < variance r + eps5 := add_pos_of_nonneg_of_pos (variance_nonneg r) eps5_pos
    have hm : meanOf (fun b n => (r b n : EReal)) = (mean r : EReal) := by
      unfold meanOf
      rw [total_real]
      exact div_real _ _ (by norm_num)
    have hv : varianceOf (fun b n => (r b n : EReal)) (mean r : EReal) = (variance r : EReal) := by
      unfold varianceOf
      simp only [← EReal.coe_sub, ← EReal.coe_mul]
      rw [total_real]
      exact div_real _ _ (by norm_num)
    unfold centred
    rw [hm, hv, ← EReal.coe_add, sqrt_real _ hp.le, ← EReal.coe_sub, div_real _ _ (Real.sqrt_pos.mpr hp).ne',
      ← EReal.coe_mul]
    rfl

end Cert.Norm

end
-- ==== Proof.Block12.lean ====
/-
  What the bodies of the second and third `pallas_call` compute of one grid point's blocks, at an index.
-/
module

public import proofs.«01_k».proof.Proof.Gen.KernelIdeal.Skeleton
public import proofs.«01_k».proof.Proof.Norm

@[expose] public section

set_option maxRecDepth 16384

noncomputable section

namespace Cert.Block12

open Idealize.ShloMosaic Cert.KernelIdeal Cert.KernelIdeal.Gen Cert.Spec Cert.Reals Cert.Norm

/-- The block of the second linear map: each entry of `z` scaled, shifted, cut off below zero, and the rows through the
    matrix `w` and the bias `b`. -/
theorem lin_apply (v0 v4 v10 v16 : Vec Ideal S1x256 .f32) (v20 : Vec Ideal S1x2048x256 .f32) (v28 : Vec Ideal S128x256 .f32)
    (v30 : Vec Ideal S1x128 .f32) (r : Fin 2048) (s ss g be z : Fin 256 → EReal) (w : Fin 128 → Fin 256 → EReal) (b : Fin 128 → EReal)
    (h0 : ∀ c, v0 (ix2 0 c) = s c) (h4 : ∀ c, v4 (ix2 0 c) = ss c)
    (h10 : ∀ c, v10 (ix2 0 c) = g c) (h16 : ∀ c, v16 (ix2 0 c) = be c)
    (h20 : ∀ c, v20 (ix3 0 r c) = z c) (h28 : ∀ o c, v28 (ix2 o c) = w o c)
    (h30 : ∀ o, v30 (ix2 0 o) = b o) (o : Fin 128) :
    k1_pay6 (F := Ideal) v0 v4 v10 v16 v20 v28 v30 (ix2 r o)
      = (∑ c, scaled (s c) (ss c) (g c) (be c) (z c) * w o c) + b o := by
  pointwise [k1_pay6]
  simp only [h0, h4, h10, h16, h20, h28, h30, word_inv_count, word_eps5]
  rfl

theorem pay1_apply (v33 : FVec Ideal S2048x128 .f32) (r : Fin 2048) (o : Fin 128) :
    k1_pay1 (F := Ideal) v33 (ix3 0 r o) = v33 (ix2 r o) := by
  pointwise [k1_pay1]

theorem pay2_apply (o : Fin 128) : k1_pay2 (F := Ideal) (ix2 0 o) = 0 := by
  pointwise [k1_pay2]

theorem pay3_apply (o : Fin 128) : k1_pay3 (F := Ideal) (ix2 0 o) = 0 := by
  pointwise [k1_pay3]

/-- The sums after a block. -/
theorem pay4_apply (v33 : FVec Ideal S2048x128 .f32) (v42 : Vec Ideal S1x128 .f32) (o : Fin 128) :
    k1_pay4 (F := Ideal) v33 v42 (ix2 0 o) = v42 (ix2 0 o) + ∑ r, v33 (ix2 r o) := by
  pointwise [k1_pay4]

/-- The sums of squares after a block. -/
theorem pay5_apply (v33 : FVec Ideal S2048x128 .f32) (v48 : Vec Ideal S1x128 .f32) (o : Fin 128) :
    k1_pay5 (F := Ideal) v33 v48 (ix2 0 o) = v48 (ix2 0 o) + ∑ r, v33 (ix2 r o) * v33 (ix2 r o) := by
  pointwise [k1_pay5]

/-- The block of the result: each entry of `z` scaled, shifted, cut off below zero, channels before points. -/
theorem out_apply (v0 v4 v10 v16 : Vec Ideal S1x128 .f32) (v20 : Vec Ideal S1x2048x128 .f32) (r : Fin 2048) (o : Fin 128)
    (s ss g be z : EReal)
    (h0 : v0 (ix2 0 o) = s) (h4 : v4 (ix2 0 o) = ss)
    (h10 : v10 (ix2 0 o) = g) (h16 : v16 (ix2 0 o) = be)
    (h20 : v20 (ix3 0 r o) = z) :
    k2_pay1 (F := Ideal) v0 v4 v10 v16 v20 (ix3 0 o r) = scaled s ss g be z := by
  pointwise [k2_pay1]
  simp only [h0, h4, h10, h16, h20, word_inv_count, word_eps5]
  rfl

end Cert.Block12

end
-- ==== Proof.Region1.lean ====
/-
  What the second `pallas_call` leaves in its three result arrays, of the first linear map and its two sums: the second
  linear map, its sums over batches and points, and its sums of squares.
-/
module

public import proofs.«01_k».proof.Proof.Gen.KernelIdeal.Frame
public import proofs.«01_k».proof.Proof.Block12
public import Idealize.ShloMosaic.Lib.Pipeline.ValueKit

@[expose] public section

set_option maxRecDepth 16384

noncomputable section

namespace Cert.Region1

open Idealize.ShloMosaic Idealize.ShloMosaic.TcCoe Cert.KernelIdeal Cert.KernelIdeal.Gen Cert.Spec Cert.Norm

variable (V : (c : Dev nD) → (b : Ref sig .tc) → Buf (Elt Ideal) ((c : Thread nD τ).loc b)) (A : Args) (c : Dev nD)

/-- The arrays the call reads hold the first linear map of `A`, its sums, and the second layer's parameters. -/
structure Holds : Prop where
  z : ∀ b n o, V c main_v8_0 (ix3 b n o) = linParts A o b n
  sum : ∀ o, V c main_v8_1 (ix2 0 o) = total (linParts A o)
  sumSq : ∀ o, V c main_v8_2 (ix2 0 o) = total (fun b n => linParts A o b n * linParts A o b n)
  gain : ∀ o, V c main_v9 (ix2 0 o) = (A.g0 o : EReal)
  offset : ∀ o, V c main_v10 (ix2 0 o) = A.be0 o
  weight : ∀ o k, V c main_arg8 (ix2 o k) = A.W1 o k
  bias : ∀ o, V c main_v11 (ix2 0 o) = A.b1 o

/-- The batch a grid point works on. -/
def batch (t : Fin cfg1.N) : Fin 8 := ⟨t.val / 2, by have := t.isLt.trans_eq N_1; omega⟩

/-- The array's row at row `r` of a grid point's block. -/
def row (t : Fin cfg1.N) (r : Fin 2048) : Fin 4096 := ⟨t.val % 2 * 2048 + r.val, by omega⟩

theorem idx0 : ∀ t : Fin cfg1.N, win1_0.index t = ![t.val / 2, t.val % 2, 0] := (by decide +kernel : ∀ t : Fin grid1.N, _)
theorem idx1 : ∀ t : Fin cfg1.N, win1_1.index t = ![0, 0] := (by decide +kernel : ∀ t : Fin grid1.N, _)
theorem idx2 : ∀ t : Fin cfg1.N, win1_2.index t = ![0, 0] := (by decide +kernel : ∀ t : Fin grid1.N, _)
theorem idx3 : ∀ t : Fin cfg1.N, win1_3.index t = ![0, 0] := (by decide +kernel : ∀ t : Fin grid1.N, _)
theorem idx4 : ∀ t : Fin cfg1.N, win1_4.index t = ![0, 0] := (by decide +kernel : ∀ t : Fin grid1.N, _)
theorem idx5 : ∀ t : Fin cfg1.N, win1_5.index t = ![0, 0] := (by decide +kernel : ∀ t : Fin grid1.N, _)
theorem idx6 : ∀ t : Fin cfg1.N, win1_6.index t = ![0, 0] := (by decide +kernel : ∀ t : Fin grid1.N, _)
theorem idx7 : ∀ t : Fin cfg1.N, win1_7.index t = ![t.val / 2, t.val % 2, 0] := (by decide +kernel : ∀ t : Fin grid1.N, _)

theorem blk0 (t : Fin cfg1.N) (r : Fin 2048) (k : Fin 256) :
    iblk1 V c 0 t (ix3 0 r k) = V c main_v8_0 (ix3 (batch t) (row t r) k) := by
  blk_simp [iblk1]
  congr 1
  blk_ext [idx0 t, batch, row]

theorem blk1 (t : Fin cfg1.N) (o : Fin 256) : iblk1 V c 1 t (ix2 0 o) = V c main_v8_1 (ix2 0 o) := by
  blk_simp [iblk1]
  congr 1
  blk_ext [idx1 t]

theorem blk2 (t : Fin cfg1.N) (o : Fin 256) : iblk1 V c 2 t (ix2 0 o) = V c main_v8_2 (ix2 0 o) := by
  blk_simp [iblk1]
  congr 1
  blk_ext [idx2 t]

theorem blk3 (t : Fin cfg1.N) (o : Fin 256) : iblk1 V c 3 t (ix2 0 o) = V c main_v9 (ix2 0 o) := by
  blk_simp [iblk1]
  congr 1
  blk_ext [idx3 t]

theorem blk4 (t : Fin cfg1.N) (o : Fin 256) : iblk1 V c 4 t (ix2 0 o) = V c main_v10 (ix2 0 o) := by
  blk_simp [iblk1]
  congr 1
  blk_ext [idx4 t]

theorem blk5 (t : Fin cfg1.N) (o : Fin 128) (k : Fin 256) : iblk1 V c 5 t (ix2 o k) = V c main_arg8 (ix2 o k) := by
  blk_simp [iblk1]
  congr 1
  blk_ext [idx5 t]

theorem blk6 (t : Fin cfg1.N) (o : Fin 128) : iblk1 V c 6 t (ix2 0 o) = V c main_v11 (ix2 0 o) := by
  blk_simp [iblk1]
  congr 1
  blk_ext [idx6 t]

/-- The block of the second linear map at a grid point, without the leading axis of length one. -/
def zBlock (t : Fin cfg1.N) : FVec Ideal S2048x128 .f32 :=
  k1_pay6 (iblk1 V c 1 t) (iblk1 V c 2 t) (iblk1 V c 3 t) (iblk1 V c 4 t) (iblk1 V c 0 t) (iblk1 V c 5 t) (iblk1 V c 6 t)

variable {V A c}

/-- The block of the second linear map is the specification's at the block's batch and points. -/
theorem zBlock_apply (h : Holds V A c) (t : Fin cfg1.N) (r : Fin 2048) (o : Fin 128) :
    zBlock V c t (ix2 r o) = lin1 A o (batch t) (row t r) := by
  refine (Block12.lin_apply _ _ _ _ _ _ _ r (fun o => total (linParts A o))
    (fun o => total fun b n => linParts A o b n * linParts A o b n) (fun o => (A.g0 o : EReal)) A.be0
    (fun o => linParts A o (batch t) (row t r)) A.W1 A.b1
    (fun o => (blk1 V c t o).trans (h.sum o)) (fun o => (blk2 V c t o).trans (h.sumSq o))
    (fun o => (blk3 V c t o).trans (h.gain o)) (fun o => (blk4 V c t o).trans (h.offset o))
    (fun o => (blk0 V c t r o).trans (h.z _ _ _)) (fun o k => (blk5 V c t o k).trans (h.weight _ _))
    (fun o => (blk6 V c t o).trans (h.bias _)) o).trans ?_
  simp only [scaled_eq, layer0_parts]
  rfl

/-- The first result's block at a grid point. -/
theorem out7 (t : Fin cfg1.N) (r : Fin 2048) (o : Fin 128) :
    (outsAt1 V c t.val t.isLt).1 (ix3 0 r o) = zBlock V c t (ix2 r o) := by
  by_cases h0 : t.val % 16 = 0
  · rw [outsAt1_A V c t h0]; frame_out
    rw [Block12.pay1_apply]; rfl
  · rw [outsAt1_B V c t h0]; frame_out
    rw [Block12.pay1_apply]; rfl

/-- The sums after the last grid point. -/
theorem out8 (o : Fin 128) :
    (outsAt1 V c t1_15.val t1_15.isLt).2.1 (ix2 0 o) = ∑ t, ∑ r, zBlock V c t (ix2 r o) := by
  rw [Pipeline.eq_sum_fin_of_reset_step_apply_last (fun n h => (outsAt1 V c n h).2.1) 16 (fun _ => 0)
    (fun t j => ∑ r, zBlock V c t (ix2 r (j 1)))
    (fun t h j => by
      rw [outsAt1_A V c t h]; frame_out
      obtain ⟨a, o, rfl⟩ : ∃ a o, j = ix2 a o := ⟨_, _, (ix2_eta j).symm⟩
      obtain rfl : a = 0 := Subsingleton.elim _ _
      rw [Block12.pay4_apply, Block12.pay2_apply]; rfl)
    (fun t h j => by
      rw [outsAt1_B V c t h]; frame_out
      obtain ⟨a, o, rfl⟩ : ∃ a o, j = ix2 a o := ⟨_, _, (ix2_eta j).symm⟩
      obtain rfl : a = 0 := Subsingleton.elim _ _
      rw [Block12.pay4_apply]; rfl)
    (le_of_eq N_1) t1_15 rfl (ix2 0 o), zero_add]
  rfl

/-- The sums of squares after the last grid point. -/
theorem out9 (o : Fin 128) :
    (outsAt1 V c t1_15.val t1_15.isLt).2.2 (ix2 0 o) = ∑ t, ∑ r, zBlock V c t (ix2 r o) * zBlock V c t (ix2 r o) := by
  rw [Pipeline.eq_sum_fin_of_reset_step_apply_last (fun n h => (outsAt1 V c n h).2.2) 16 (fun _ => 0)
    (fun t j => ∑ r, zBlock V c t (ix2 r (j 1)) * zBlock V c t (ix2 r (j 1)))
    (fun t h j => by
      rw [outsAt1_A V c t h]; frame_out
      obtain ⟨a, o, rfl⟩ : ∃ a o, j = ix2 a o := ⟨_, _, (ix2_eta j).symm⟩
      obtain rfl : a = 0 := Subsingleton.elim _ _
      rw [Block12.pay5_apply, Block12.pay3_apply]; rfl)
    (fun t h j => by
      rw [outsAt1_B V c t h]; frame_out
      obtain ⟨a, o, rfl⟩ : ∃ a o, j = ix2 a o := ⟨_, _, (ix2_eta j).symm⟩
      obtain rfl : a = 0 := Subsingleton.elim _ _
      rw [Block12.pay5_apply]; rfl)
    (le_of_eq N_1) t1_15 rfl (ix2 0 o), zero_add]
  rfl

/-- A sum over grid points and rows of a block is the sum over batches and points. -/
theorem sum_blocks (f : Fin 8 → Fin 4096 → EReal) : ∑ t : Fin cfg1.N, ∑ r, f (batch t) (row t r) = ∑ b, ∑ n, f b n :=
  Fin.sum_points_lanes_congr 2 (fun _ _ _ _ => rfl) (hN := N_1)

/-- The first result: the second linear map. -/
theorem arr7 (h : Holds V A c) (b : Fin 8) (n : Fin 4096) (o : Fin 128) :
    (dat1 V c).arrAt 7 cfg1.N (ix3 b n o) = lin1 A o b n := by
  have : (dat1 V c).arrAt 7 cfg1.N = fun i => lin1 A (i 2) (i 0) (i 1) := by
    refine (dat1 V c).arrAt_eq_of_covers 7 _ (by decide +kernel) fun t hf y => ?_
    blk_simp
    rw [after1_7]
    obtain ⟨a, r, o, rfl⟩ : ∃ a r o, y = ix3 a r o := ⟨_, _, _, (ix3_eta y).symm⟩
    obtain rfl : a = 0 := Subsingleton.elim _ _
    refine (out7 t r o).trans ((zBlock_apply h t r o).trans ?_)
    have e0 : batch t = ((win1_7.blk t).view.emb (ix3 0 r o)) 0 := by ext; blk_simp [idx7 t, batch]; rfl
    have e1 : row t r = ((win1_7.blk t).view.emb (ix3 0 r o)) 1 := by ext; blk_simp [idx7 t, row]
    have e2 : o = ((win1_7.blk t).view.emb (ix3 0 r o)) 2 := by ext; blk_simp [idx7 t]
    rw [← e0, ← e1, ← e2]
  exact congrFun this (ix3 b n o)

/-- The second result: the sums over batches and points. -/
theorem arr8 (h : Holds V A c) (o : Fin 128) :
    (dat1 V c).arrAt 8 cfg1.N (ix2 0 o) = total (lin1 A o) := by
  refine ((dat1 V c).arrAt_emb_eq_after_last 8 t1_15 (by decide +kernel) (ix2 0 o)).trans ?_
  rw [after1_8]
  refine (out8 o).trans ?_
  simp only [zBlock_apply h]
  exact sum_blocks (lin1 A o)

/-- The third result: the sums of squares over batches and points. -/
theorem arr9 (h : Holds V A c) (o : Fin 128) :
    (dat1 V c).arrAt 9 cfg1.N (ix2 0 o) = total (fun b n => lin1 A o b n * lin1 A o b n) := by
  refine ((dat1 V c).arrAt_emb_eq_after_last 9 t1_15 (by decide +kernel) (ix2 0 o)).trans ?_
  rw [after1_9]
  refine (out9 o).trans ?_
  simp only [zBlock_apply h]
  exact sum_blocks fun b n => lin1 A o b n * lin1 A o b n

end Cert.Region1

end
-- ==== Proof.Region2.lean ====
/-
  What the third `pallas_call` leaves in its result array, of the second linear map and its two sums: the second
  layer, indexed batch, channel, point.
-/
module

public import proofs.«01_k».proof.Proof.Gen.KernelIdeal.Frame
public import proofs.«01_k».proof.Proof.Block12
public import Idealize.ShloMosaic.Lib.Pipeline.ValueKit

@[expose] public section

set_option maxRecDepth 16384

noncomputable section

namespace Cert.Region2

open Idealize.ShloMosaic Idealize.ShloMosaic.TcCoe Cert.KernelIdeal Cert.KernelIdeal.Gen Cert.Spec Cert.Norm

variable (V : (c : Dev nD) → (b : Ref sig .tc) → Buf (Elt Ideal) ((c : Thread nD τ).loc b)) (A : Args) (c : Dev nD)

/-- The arrays the call reads hold the second linear map of `A`, its sums, and the normalisation's parameters. -/
structure Holds : Prop where
  z : ∀ b n o, V c main_v12_0 (ix3 b n o) = lin1 A o b n
  sum : ∀ o, V c main_v12_1 (ix2 0 o) = total (lin1 A o)
  sumSq : ∀ o, V c main_v12_2 (ix2 0 o) = total (fun b n => lin1 A o b n * lin1 A o b n)
  gain : ∀ o, V c main_v13 (ix2 0 o) = (A.g1 o : EReal)
  offset : ∀ o, V c main_v14 (ix2 0 o) = A.be1 o

/-- The batch a grid point works on. -/
def batch (t : Fin cfg2.N) : Fin 8 := ⟨t.val / 2, by have := t.isLt.trans_eq N_2; omega⟩

/-- The array's row at row `r` of a grid point's block. -/
def row (t : Fin cfg2.N) (r : Fin 2048) : Fin 4096 := ⟨t.val % 2 * 2048 + r.val, by omega⟩

theorem idx0 : ∀ t : Fin cfg2.N, win2_0.index t = ![t.val / 2, t.val % 2, 0] := (by decide +kernel : ∀ t : Fin grid2.N, _)
theorem idx1 : ∀ t : Fin cfg2.N, win2_1.index t = ![0, 0] := (by decide +kernel : ∀ t : Fin grid2.N, _)
theorem idx2 : ∀ t : Fin cfg2.N, win2_2.index t = ![0, 0] := (by decide +kernel : ∀ t : Fin grid2.N, _)
theorem idx3 : ∀ t : Fin cfg2.N, win2_3.index t = ![0, 0] := (by decide +kernel : ∀ t : Fin grid2.N, _)
theorem idx4 : ∀ t : Fin cfg2.N, win2_4.index t = ![0, 0] := (by decide +kernel : ∀ t : Fin grid2.N, _)
theorem idx5 : ∀ t : Fin cfg2.N, win2_5.index t = ![t.val / 2, 0, t.val % 2] := (by decide +kernel : ∀ t : Fin grid2.N, _)

theorem blk0 (t : Fin cfg2.N) (r : Fin 2048) (k : Fin 128) :
    iblk2 V c 0 t (ix3 0 r k) = V c main_v12_0 (ix3 (batch t) (row t r) k) := by
  blk_simp [iblk2]
  congr 1
  blk_ext [idx0 t, batch, row]

theorem blk1 (t : Fin cfg2.N) (o : Fin 128) : iblk2 V c 1 t (ix2 0 o) = V c main_v12_1 (ix2 0 o) := by
  blk_simp [iblk2]
  congr 1
  blk_ext [idx1 t]

theorem blk2 (t : Fin cfg2.N) (o : Fin 128) : iblk2 V c 2 t (ix2 0 o) = V c main_v12_2 (ix2 0 o) := by
  blk_simp [iblk2]
  congr 1
  blk_ext [idx2 t]

theorem blk3 (t : Fin cfg2.N) (o : Fin 128) : iblk2 V c 3 t (ix2 0 o) = V c main_v13 (ix2 0 o) := by
  blk_simp [iblk2]
  congr 1
  blk_ext [idx3 t]

theorem blk4 (t : Fin cfg2.N) (o : Fin 128) : iblk2 V c 4 t (ix2 0 o) = V c main_v14 (ix2 0 o) := by
  blk_simp [iblk2]
  congr 1
  blk_ext [idx4 t]

variable {V A c}

/-- The result's block at a grid point is the second layer at the block's batch and points. -/
theorem out5 (h : Holds V A c) (t : Fin cfg2.N) (r : Fin 2048) (o : Fin 128) :
    (dat2 V c).after 5 t (ix3 0 o r) = layer1 A o (batch t) (row t r) := by
  rw [after2_5]; frame_out
  refine (Block12.out_apply _ _ _ _ _ r o (total (lin1 A o)) (total fun b n => lin1 A o b n * lin1 A o b n) (A.g1 o) (A.be1 o)
    (lin1 A o (batch t) (row t r))
    ((blk1 V c t o).trans (h.sum o)) ((blk2 V c t o).trans (h.sumSq o))
    ((blk3 V c t o).trans (h.gain o)) ((blk4 V c t o).trans (h.offset o))
    ((blk0 V c t r o).trans (h.z _ _ _))).trans ?_
  exact scaled_eq (lin1 A o) (A.g1 o) (A.be1 o) (batch t) (row t r)

/-- The result: the second layer. -/
theorem arr5 (h : Holds V A c) (b : Fin 8) (o : Fin 128) (n : Fin 4096) :
    (dat2 V c).arrAt 5 cfg2.N (ix3 b o n) = layer1 A o b n := by
  have : (dat2 V c).arrAt 5 cfg2.N = fun i => layer1 A (i 1) (i 0) (i 2) := by
    refine (dat2 V c).arrAt_eq_of_covers 5 _ (by decide +kernel) fun t hf y => ?_
    blk_simp
    obtain ⟨a, o, r, rfl⟩ : ∃ a o r, y = ix3 a o r := ⟨_, _, _, (ix3_eta y).symm⟩
    obtain rfl : a = 0 := Subsingleton.elim _ _
    refine (out5 h t r o).trans ?_
    have e0 : batch t = ((win2_5.blk t).view.emb (ix3 0 o r)) 0 := by ext; blk_simp [idx5 t, batch]; rfl
    have e1 : o = ((win2_5.blk t).view.emb (ix3 0 o r)) 1 := by ext; blk_simp [idx5 t]
    have e2 : row t r = ((win2_5.blk t).view.emb (ix3 0 o r)) 2 := by ext; blk_simp [idx5 t, row]
    rw [← e0, ← e1, ← e2]
  exact congrFun this (ix3 b o n)

end Cert.Region2

end
-- ==== Proof.KValue.lean ====
/-
  What the kernel's result array holds after its last `pallas_call`, of arguments with real points and scales: the
  second layer. The three calls' results follow from one another through the host operations between them.
-/
module

public import proofs.«01_k».proof.Proof.Region0
public import proofs.«01_k».proof.Proof.Region1
public import proofs.«01_k».proof.Proof.Region2
public import Idealize.ShloMosaic.Lib.Claim

@[expose] public section

set_option maxRecDepth 16384

noncomputable section

namespace Cert.KValue

open Idealize.ShloMosaic Idealize.ShloMosaic.TcCoe Cert.KernelIdeal Cert.KernelIdeal.Gen Cert.Spec Cert.Reals

variable (m : (ℓ : Loc nD τ sig) → Buf (Elt Ideal) ℓ) (ρ : Dev nD → PrngReg) (A : Args) (c : Dev nD)

/-- The argument arrays hold `A` at launch. -/
structure Launch : Prop where
  xyz1 : ∀ b n k, m ((c : Thread nD τ).loc main_arg0) (ix3 b n k) = (A.xyz1 b n k : EReal)
  xyz2 : ∀ b p k, m ((c : Thread nD τ).loc main_arg1) (ix3 b p k) = (A.xyz2 b p k : EReal)
  feat1 : ∀ b k n, m ((c : Thread nD τ).loc main_arg2) (ix3 b k n) = A.feat1 b k n
  feat2 : ∀ b k p, m ((c : Thread nD τ).loc main_arg3) (ix3 b k p) = A.feat2 b k p
  W0 : ∀ o k, m ((c : Thread nD τ).loc main_arg4) (ix2 o k) = A.W0 o k
  b0 : ∀ o, m ((c : Thread nD τ).loc main_arg5) (ix1 o) = A.b0 o
  g0 : ∀ o, m ((c : Thread nD τ).loc main_arg6) (ix1 o) = (A.g0 o : EReal)
  be0 : ∀ o, m ((c : Thread nD τ).loc main_arg7) (ix1 o) = A.be0 o
  W1 : ∀ o k, m ((c : Thread nD τ).loc main_arg8) (ix2 o k) = A.W1 o k
  b1 : ∀ o, m ((c : Thread nD τ).loc main_arg9) (ix1 o) = A.b1 o
  g1 : ∀ o, m ((c : Thread nD τ).loc main_arg10) (ix1 o) = (A.g1 o : EReal)
  be1 : ∀ o, m ((c : Thread nD τ).loc main_arg11) (ix1 o) = A.be1 o

/-! ## The host operations, over any contents before them -/

section Host

variable (V : Valuation τ sig (Elt Ideal))

theorem transposed (b : Fin 8) (k : Fin 3) (p : Fin 1024) :
    StableHlo.after hostOps0 V (Proc.devRef .tc main_v0) (ix3 b k p) = V (Proc.devRef .tc main_arg1) (ix3 b p k) := by
  after_results
  pointwise

theorem squares1 (b : Fin 8) (n : Fin 4096) (u : Fin 3 → ℝ)
    (h : ∀ k, V (Proc.devRef .tc main_arg0) (ix3 b n k) = (u k : EReal)) :
    StableHlo.after hostOps0 V (Proc.devRef .tc main_v3) (ix3 b n 0) = ((∑ k, u k * u k : ℝ) : EReal) := by
  after_results
  pointwise
  simp only [h, ← EReal.coe_mul, sum_real]

theorem squares2 (b : Fin 8) (p : Fin 1024) (u : Fin 3 → ℝ)
    (h : ∀ k, V (Proc.devRef .tc main_arg1) (ix3 b p k) = (u k : EReal)) :
    StableHlo.after hostOps0 V (Proc.devRef .tc main_v6) (ix3 b 0 p) = ((∑ k, u k * u k : ℝ) : EReal) := by
  after_results
  pointwise
  simp only [h, ← EReal.coe_mul, sum_real]

theorem row_v7 (o : Fin 256) :
    StableHlo.after hostOps0 V (Proc.devRef .tc main_v7) (ix2 0 o) = V (Proc.devRef .tc main_arg5) (ix1 o) := by
  after_results
  pointwise

theorem row_v9 (o : Fin 256) :
    StableHlo.after hostOps1 V (Proc.devRef .tc main_v9) (ix2 0 o) = V (Proc.devRef .tc main_arg6) (ix1 o) := by
  after_results
  pointwise

theorem row_v10 (o : Fin 256) :
    StableHlo.after hostOps1 V (Proc.devRef .tc main_v10) (ix2 0 o) = V (Proc.devRef .tc main_arg7) (ix1 o) := by
  after_results
  pointwise

theorem row_v11 (o : Fin 128) :
    StableHlo.after hostOps1 V (Proc.devRef .tc main_v11) (ix2 0 o) = V (Proc.devRef .tc main_arg9) (ix1 o) := by
  after_results
  pointwise

theorem row_v13 (o : Fin 128) :
    StableHlo.after hostOps2 V (Proc.devRef .tc main_v13) (ix2 0 o) = V (Proc.devRef .tc main_arg10) (ix1 o) := by
  after_results
  pointwise

theorem row_v14 (o : Fin 128) :
    StableHlo.after hostOps2 V (Proc.devRef .tc main_v14) (ix2 0 o) = V (Proc.devRef .tc main_arg11) (ix1 o) := by
  after_results
  pointwise

end Host

variable {m A c}

/-! ## The three calls in order -/

theorem holds0 (h : Launch m A c) : Region0.Holds (V1 m ρ) A c where
  xyz1 b n k := (congrFun (W1_args m ρ c main_arg0 (by decide)) _).trans (h.xyz1 b n k)
  xyz2 b k p := (transposed (W0 m ρ c) b k p).trans (h.xyz2 b p k)
  sq1 b n := squares1 (W0 m ρ c) b n _ (h.xyz1 b n)
  sq2 b p := squares2 (W0 m ρ c) b p _ (h.xyz2 b p)
  feat1 b k n := (congrFun (W1_args m ρ c main_arg2 (by decide)) _).trans (h.feat1 b k n)
  feat2 b k p := (congrFun (W1_args m ρ c main_arg3 (by decide)) _).trans (h.feat2 b k p)
  weight o k := (congrFun (W1_args m ρ c main_arg4 (by decide)) _).trans (h.W0 o k)
  bias o := (row_v7 (W0 m ρ c) o).trans (h.b0 o)

theorem holds1 (h : Launch m A c) : Region1.Holds (V3 m ρ) A c where
  z b n o := (congrFun ((W3_of m ρ c main_v8_0 (by decide)).trans (W2_arr m ρ c 8)) _).trans (Region0.arr8 (holds0 ρ h) b n o)
  sum o := (congrFun ((W3_of m ρ c main_v8_1 (by decide)).trans (W2_arr m ρ c 9)) _).trans (Region0.arr9 (holds0 ρ h) o)
  sumSq o := (congrFun ((W3_of m ρ c main_v8_2 (by decide)).trans (W2_arr m ρ c 10)) _).trans (Region0.arr10 (holds0 ρ h) o)
  gain o := (row_v9 (W2 m ρ c) o).trans ((congrFun (W2_args m ρ c main_arg6 (by decide)) _).trans (h.g0 o))
  offset o := (row_v10 (W2 m ρ c) o).trans ((congrFun (W2_args m ρ c main_arg7 (by decide)) _).trans (h.be0 o))
  weight o k := (congrFun (W3_args m ρ c main_arg8 (by decide)) _).trans (h.W1 o k)
  bias o := (row_v11 (W2 m ρ c) o).trans ((congrFun (W2_args m ρ c main_arg9 (by decide)) _).trans (h.b1 o))

theorem holds2 (h : Launch m A c) : Region2.Holds (V5 m ρ) A c where
  z b n o := (congrFun ((W5_of m ρ c main_v12_0 (by decide)).trans (W4_arr m ρ c 7)) _).trans (Region1.arr7 (holds1 ρ h) b n o)
  sum o := (congrFun ((W5_of m ρ c main_v12_1 (by decide)).trans (W4_arr m ρ c 8)) _).trans (Region1.arr8 (holds1 ρ h) o)
  sumSq o := (congrFun ((W5_of m ρ c main_v12_2 (by decide)).trans (W4_arr m ρ c 9)) _).trans (Region1.arr9 (holds1 ρ h) o)
  gain o := (row_v13 (W4 m ρ c) o).trans ((congrFun (W4_args m ρ c main_arg10 (by decide)) _).trans (h.g1 o))
  offset o := (row_v14 (W4 m ρ c) o).trans ((congrFun (W4_args m ρ c main_arg11 (by decide)) _).trans (h.be1 o))

/-- The result array after the third call: the second layer at batch `b`, point `n`, channel `o`. -/
theorem result (h : Launch m A c) (b : Fin 8) (o : Fin 128) (n : Fin 4096) :
    W6 m ρ c (Proc.devRef .tc main_v15) (ix3 b o n) = layer1 A o b n :=
  (congrFun (W6_arr m ρ c 5) _).trans (Region2.arr5 (holds2 ρ h) b o n)

end Cert.KValue

end
-- ==== Proof.RefNorm.lean ====
/-
  The reference's normalisation of a layer, stated once for any number of channels: with finite scale factors it is
  the specification's, channel by channel.
-/
module

public import proofs.«01_k».proof.Proof.Gen.ReferenceIdeal.Read
public import proofs.«01_k».proof.Proof.Norm

@[expose] public section

set_option maxRecDepth 16384

noncomputable section

namespace Cert.RefNorm

open Idealize.ShloMosaic Cert.ReferenceIdeal Cert.Spec Cert.Reals Cert.Norm

variable {O : ℕ}

/-- An array of batch, channel, point. -/
abbrev Full (O : ℕ) : Shape := ⟨3, ![8, O, 4096]⟩
/-- An array of one number to a channel, kept at rank three. -/
abbrev Chan (O : ℕ) : Shape := ⟨3, ![1, O, 1]⟩
/-- An array of one number to a channel. -/
abbrev Vec (O : ℕ) : Shape := ⟨1, ![O]⟩

/-- What the shapes of the normalisation satisfy. -/
structure Fits (O : ℕ) : Prop where
  red : (Full O).ReducesTo [0, 2] (Vec O)
  one : 0 < S_.numel
  chan : (Vec O).BroadcastsInDim (Chan O) ![1]
  full : (Chan O).BroadcastsInDim (Full O) ![0, 1, 2]
  fillChan : S_.BroadcastsInDim (Chan O) ![]
  fillFull : S_.BroadcastsInDim (Full O) ![]

/-! ## The sum over the batch and the points -/

theorem fiber (h : (Full O).ReducesTo [0, 2] (Vec O)) (o : Fin O) (i : (Full O).Idx) :
    h.drop i = ix1 o ↔ ∃ k : Fin 8 × Fin 4096, ix3 k.1 o k.2 = i := by
  constructor
  · intro e
    refine ⟨(i 0, i 2), ?_⟩
    funext a
    apply Fin.ext
    match a with
    | ⟨0, _⟩ => rfl
    | ⟨1, _⟩ => exact (congrArg Fin.val (congrFun e 0)).symm
    | ⟨2, _⟩ => rfl
  · rintro ⟨k, rfl⟩
    funext b
    apply Fin.ext
    match b with
    | ⟨0, _⟩ => rfl

/-- The reference's sum over the batch and the points, at a channel. -/
theorem sum_apply (F : Fits O) (z : FVec Ideal (Full O) .f32) (o : Fin O) :
    Host.reduceAdd z (constant (F := Ideal) S_ .f32 0x00000000#32) F.red F.one (ix1 o) = ∑ b, ∑ n, z (ix3 b o n) := by
  rw [ValueIdx.hostReduceAdd_apply]
  have hs : ∑ i ∈ Finset.univ.filter (fun i => F.red.drop i = ix1 o), z i = ∑ b, ∑ n, z (ix3 b o n) := by
    refine (Finset.sum_filter_eq_sum_of_fiber _ (fun k : Fin 8 × Fin 4096 => ix3 k.1 o k.2)
      (fun _ _ e => Prod.ext (congrFun e 0) (congrFun e 2)) (fiber F.red o) z).trans ?_
    simp only [Fintype.sum_prod_type]
  refine (congrArg (_ + ·) hs).trans ?_
  have h0 : (constant (F := Ideal) S_ .f32 0x00000000#32) (Shape.Idx.first F.one) = 0 := by
    show Ideal.ofBits .f32 0x00000000#32 = 0
    simp
  rw [h0, zero_add]

/-! ## The stages -/

/-- The mean of each channel. -/
def meanStage (F : Fits O) (z : FVec Ideal (Full O) .f32) : FVec Ideal (Chan O) .f32 :=
  Host.divf (broadcastInDim (Chan O) ![1] F.chan (Host.reduceAdd z (constant S_ .f32 0x00000000#32) F.red F.one))
    (broadcastInDim (Chan O) ![] F.fillChan (constant S_ .f32 0x47000000#32))

/-- The difference of each entry from its channel's number. -/
def subStage (F : Fits O) (z : FVec Ideal (Full O) .f32) (m : FVec Ideal (Chan O) .f32) : FVec Ideal (Full O) .f32 :=
  subf z (broadcastInDim (Full O) ![0, 1, 2] F.full m)

/-- The number of entries to a channel, as the reference forms it. -/
def count : FVec Ideal S_ .f32 :=
  subf (constant S_ .f32 0x47000000#32) (sitofp .f32 (constantI S_ 32 0#32))

/-- The mean of each channel's squares, kept where the number of entries is positive. -/
def varStage (F : Fits O) (e : FVec Ideal (Full O) .f32) : FVec Ideal (Chan O) .f32 :=
  select (broadcastInDim (Chan O) ![] F.fillChan (cmpf .ogt count (constant S_ .f32 0x00000000#32)))
    (Host.divf (broadcastInDim (Chan O) ![1] F.chan
        (Host.reduceAdd (mulf e e) (constant S_ .f32 0x00000000#32) F.red F.one))
      (broadcastInDim (Chan O) ![] F.fillChan count))
    (broadcastInDim (Chan O) ![] F.fillChan (id (constant S_ .f32 0x7FC00000#32)))

/-- The differences over the square root of the variances, scaled, shifted, and cut off below zero. -/
def reluStage (F : Fits O) (e : FVec Ideal (Full O) .f32) (v : FVec Ideal (Chan O) .f32) (g be : FVec Ideal (Vec O) .f32) :
    FVec Ideal (Full O) .f32 :=
  maximumf
    (addf
      (mulf
        (Host.divf e (broadcastInDim (Full O) ![0, 1, 2] F.full
          (Host.sqrt (addf v (broadcastInDim (Chan O) ![] F.fillChan (constant S_ .f32 0x3727C5AC#32))))))
        (broadcastInDim (Full O) ![0, 1, 2] F.full (broadcastInDim (Chan O) ![1] F.chan g)))
      (broadcastInDim (Full O) ![0, 1, 2] F.full (broadcastInDim (Chan O) ![1] F.chan be)))
    (broadcastInDim (Full O) ![] F.fillFull (constant S_ .f32 0x00000000#32))

/-- The normalisation of a layer. -/
def normStage (F : Fits O) (z : FVec Ideal (Full O) .f32) (g be : FVec Ideal (Vec O) .f32) : FVec Ideal (Full O) .f32 :=
  reluStage F (subStage F z (meanStage F z)) (varStage F (subStage F z (meanStage F z))) g be

/-! ## The stages at an index -/

/-- A channel's number spread over the whole array. -/
theorem full_apply (F : Fits O) (x : FVec Ideal (Chan O) .f32) (b : Fin 8) (o : Fin O) (n : Fin 4096) :
    broadcastInDim (Full O) ![0, 1, 2] F.full x (ix3 b o n) = x (ix3 0 o 0) := by
  unfold broadcastInDim
  congr 1
  funext a
  apply Fin.ext
  match a with
  | ⟨0, _⟩ => rfl
  | ⟨1, _⟩ =>
    have := o.isLt
    by_cases h : O = 1
    · simp only [Fin.mk_one, Matrix.cons_val_one, Matrix.cons_val_zero, h, ↓reduceDIte]
      show 0 = o.val
      omega
    · simp only [Fin.mk_one, Matrix.cons_val_one, Matrix.cons_val_zero, h, ↓reduceDIte]
      rfl
  | ⟨2, _⟩ => rfl

/-- A channel's number kept at rank three. -/
theorem chan_apply (F : Fits O) (x : FVec Ideal (Vec O) .f32) (o : Fin O) :
    broadcastInDim (Chan O) ![1] F.chan x (ix3 0 o 0) = x (ix1 o) := by
  unfold broadcastInDim
  congr 1
  funext a
  apply Fin.ext
  match a with
  | ⟨0, _⟩ =>
    have := o.isLt
    by_cases h : O = 1
    · simp only [Fin.zero_eta, Matrix.cons_val_zero, h, ↓reduceDIte]
      show 0 = o.val
      omega
    · simp only [Fin.zero_eta, Matrix.cons_val_zero, h, ↓reduceDIte]
      rfl

/-- One number spread over the channels. -/
theorem fill_apply {α : Type} (F : Fits O) (x : S_.Idx → α) (j : (Chan O).Idx) :
    broadcastInDim (Chan O) ![] F.fillChan x j = x ix0 := ValueIdx.broadcastInDim_scalar_apply F.fillChan x j

/-- A channel of an array: batch, point. -/
abbrev channel (z : FVec Ideal (Full O) .f32) (o : Fin O) (b : Fin 8) (n : Fin 4096) : EReal := z (ix3 b o n)

theorem meanStage_apply (F : Fits O) (z : FVec Ideal (Full O) .f32) (o : Fin O) :
    meanStage F z (ix3 0 o 0) = meanOf (channel z o) := by
  show Ideal.div _ _ = _
  rw [chan_apply F, fill_apply F, sum_apply F]
  exact congrArg (Ideal.div _) word_count

theorem subStage_apply (F : Fits O) (z : FVec Ideal (Full O) .f32) (m : FVec Ideal (Chan O) .f32) (b : Fin 8)
    (n : Fin 4096) (o : Fin O) : subStage F z m (ix3 b o n) = z (ix3 b o n) - m (ix3 0 o 0) := by
  show z (ix3 b o n) - broadcastInDim (Full O) ![0, 1, 2] F.full m (ix3 b o n) = _
  rw [full_apply F]

theorem count_real : count ix0 = ((32768 : ℝ) : EReal) := by
  show Ideal.ofBits .f32 0x47000000#32 - (((0#32 : BitVec 32).toInt : ℝ) : EReal) = _
  rw [word_count]
  simp

theorem varStage_apply (F : Fits O) (z : FVec Ideal (Full O) .f32) (m : FVec Ideal (Chan O) .f32) (o : Fin O) :
    varStage F (subStage F z m) (ix3 0 o 0) = varianceOf (channel z o) (m (ix3 0 o 0)) := by
  have hc : broadcastInDim (Chan O) ![] F.fillChan (cmpf .ogt count (constant (F := Ideal) S_ .f32 0x00000000#32)) (ix3 0 o 0)
      = 1#1 := by
    rw [fill_apply F]
    show Ideal.cmp .ogt (count ix0) (Ideal.ofBits .f32 0x00000000#32) = 1#1
    rw [count_real, Ideal.ofBits_zero_f32]
    simp [Ideal.cmp]
  show Scalar.select _
    (Ideal.div _ _) _ = _
  rw [hc, ValueIdx.select_one, chan_apply F, fill_apply F, sum_apply F, count_real]
  have hm : ∀ b n, mulf (subStage F z m) (subStage F z m) (ix3 b o n)
      = (z (ix3 b o n) - m (ix3 0 o 0)) * (z (ix3 b o n) - m (ix3 0 o 0)) := fun b n => by
    show subStage F z m (ix3 b o n) * subStage F z m (ix3 b o n) = _
    rw [subStage_apply]
  simp only [hm]
  rfl

theorem reluStage_apply (F : Fits O) (z : FVec Ideal (Full O) .f32) (m v : FVec Ideal (Chan O) .f32)
    (g be : FVec Ideal (Vec O) .f32) (b : Fin 8) (n : Fin 4096) (o : Fin O) :
    reluStage F (subStage F z m) v g be (ix3 b o n)
      = centred (m (ix3 0 o 0)) (v (ix3 0 o 0)) (g (ix1 o)) (be (ix1 o)) (z (ix3 b o n)) := by
  have hs : Host.sqrt (addf v (broadcastInDim (Chan O) ![] F.fillChan (constant (F := Ideal) S_ .f32 0x3727C5AC#32))) (ix3 0 o 0)
      = Ideal.sqrt (v (ix3 0 o 0) + (eps5 : EReal)) := by
    show Ideal.sqrt (v (ix3 0 o 0) + _) = _
    rw [fill_apply F]
    exact congrArg (fun x => Ideal.sqrt (v (ix3 0 o 0) + x)) word_eps5
  show max (Ideal.div (subStage F z m (ix3 b o n)) _
      * _ + _)
    _ = _
  rw [full_apply F, full_apply F, full_apply F, chan_apply F, chan_apply F, ValueIdx.broadcastInDim_scalar_apply F.fillFull, hs,
    subStage_apply]
  exact congrArg (max _) (Ideal.ofBits_zero_f32)

/-- The normalisation of a layer, with finite scale factors. -/
theorem normStage_apply (F : Fits O) (z : FVec Ideal (Full O) .f32) (g be : FVec Ideal (Vec O) .f32) (gr : Fin O → ℝ)
    (hg : ∀ o, g (ix1 o) = (gr o : EReal)) (b : Fin 8) (n : Fin 4096) (o : Fin O) :
    normStage F z g be (ix3 b o n) = normRelu (channel z o) (gr o) (be (ix1 o)) b n := by
  unfold normStage
  rw [reluStage_apply, varStage_apply, meanStage_apply, hg]
  exact centred_eq (channel z o) (gr o) (be (ix1 o)) b n

end Cert.RefNorm

end
-- ==== Proof.RefTopk.lean ====
/-
  The reference's selection of the three nearest points: its distances on real points, and the values and positions that
  sorting the negated distances returns.
-/
module

public import proofs.«01_k».proof.Proof.Gen.ReferenceIdeal.Read
public import proofs.«01_k».proof.Proof.Reals

@[expose] public section

set_option maxRecDepth 16384

noncomputable section

namespace Cert.RefTopk

open Idealize.ShloMosaic Cert.ReferenceIdeal Cert.ReferenceIdeal.Gen Cert.ReferenceIdeal.Read Cert.Spec Cert.Reals Cert.Select

/-! ## The distances -/

/-- The first argument holds the query points, the second the source points. -/
structure Points (A : Args) (x0 : FVec Ideal S8x4096x3 .f32) (x1 : FVec Ideal S8x1024x3 .f32) : Prop where
  query : ∀ b n k, x0 (ix3 b n k) = (A.xyz1 b n k : EReal)
  source : ∀ b p k, x1 (ix3 b p k) = (A.xyz2 b p k : EReal)

variable {A : Args} {x0 : FVec Ideal S8x4096x3 .f32} {x1 : FVec Ideal S8x1024x3 .f32}

theorem dist_real (h : Points A x0 x1) (b : Fin 8) (n : Fin 4096) (p : Fin 1024) :
    val_main_v12 (F := Ideal) x0 x1 (ix3 b n p) = (dist A b n p : EReal) := by
  pointwise [val_main_v12, val_main_v9, val_main_v7, val_main_v5, val_main_v1, val_main_v8, val_main_v6, val_main_v3,
    val_main_v11, val_main_v10, val_main_v4, val_main_v0, val_main_v2, val_main_cst, val_main_cst_0, val_main_cst_1]
  simp only [h.query, h.source, ← EReal.coe_mul, sum_real]
  rw [word_two]
  simp only [← EReal.coe_mul, ← EReal.coe_add, ← EReal.coe_sub]
  rfl

/-! ## Sorting along the last axis -/

/-- An index with its last coordinate replaced. -/
theorem along_last (j : S8x4096x1024.Idx) (b : Fin 8) (n : Fin 4096) (h0 : j 0 = b) (h1 : j 1 = n) (k : Fin 1024) :
    j.along 2 k = ix3 b n k := by
  funext a
  match a with
  | ⟨0, _⟩ => exact h0
  | ⟨1, _⟩ => exact h1
  | ⟨2, _⟩ => rfl

/-- Along a row, the stable sort by greatest entry. -/
def order (x : FVec Ideal S8x4096x1024 .f32) (b : Fin 8) (n : Fin 4096) : Fin 1024 → Fin 1024 :=
  sortedFrom (fun k k' => FloatOps.cmpfTotal (F := Ideal) .gt (x (ix3 b n k)) (x (ix3 b n k')) == 1#1)

/-- The sort of an array with its positions, read at an index. -/
theorem sort_apply (x : FVec Ideal S8x4096x1024 .f32) (y : IVec S8x4096x1024 32) (j : S8x4096x1024.Idx) (b : Fin 8)
    (n : Fin 4096) (h0 : j 0 = b) (h1 : j 1 = n) :
    (Host.sort2 S8x4096x1024 2 (fun l r => FloatOps.cmpfTotal (F := Ideal) .gt l.1 r.1) x y).1 j
        = x (ix3 b n (order x b n (j 2)))
      ∧ (Host.sort2 S8x4096x1024 2 (fun l r => FloatOps.cmpfTotal (F := Ideal) .gt l.1 r.1) x y).2 j
        = y (ix3 b n (order x b n (j 2))) := by
  unfold Host.sort2 order
  rw [dif_pos (by decide)]
  have h := along_last j b n h0 h1
  exact ⟨by simp only [← h]; rfl, by simp only [← h]; rfl⟩

/-- The three greatest entries of a row and their positions. -/
theorem topK_apply (x : FVec Ideal S8x4096x1024 .f32) (b : Fin 8) (n : Fin 4096) (i : Fin 3) :
    (Host.topK S8x4096x3 2 (FloatOps.cmpfTotal (F := Ideal) .gt) x sliceFits_S8x4096x1024_S8x4096x3).1 (ix3 b n i)
        = x (ix3 b n (order x b n (i.castLE (by decide))))
      ∧ (Host.topK S8x4096x3 2 (FloatOps.cmpfTotal (F := Ideal) .gt) x sliceFits_S8x4096x1024_S8x4096x3).2 (ix3 b n i)
        = BitVec.ofNat 32 (order x b n (i.castLE (by decide))).val := by
  let j : S8x4096x1024.Idx := fun a => ⟨0 + (ix3 b n i (a.cast sliceFits_S8x4096x1024_S8x4096x3.1.symm)).val,
    Nat.lt_of_lt_of_le (Nat.add_lt_add_left (ix3 b n i _).isLt _) (sliceFits_S8x4096x1024_S8x4096x3.2 a)⟩
  have h0 : j 0 = b := Fin.ext (Nat.zero_add _)
  have h1 : j 1 = n := Fin.ext (Nat.zero_add _)
  have h2 : j 2 = i.castLE (by decide) := Fin.ext (Nat.zero_add _)
  have h := sort_apply x (fun i => if hd : 2 < S8x4096x1024.rank then iotaInDim S8x4096x1024 32 ⟨2, hd⟩ i else 0#32) j b n h0 h1
  rw [h2] at h
  exact ⟨h.1, h.2⟩

/-- Of negated real numbers, the greater is the smaller number's. -/
theorem compare_real (f : Fin 1024 → ℝ) :
    (fun k k' : Fin 1024 => FloatOps.cmpfTotal (F := Ideal) (φ := .f32) .gt (-(f k : EReal)) (-(f k' : EReal)) == 1#1)
      = fun k k' => decide (f k < f k') := by
  funext k k'
  show (Ideal.cmp .ogt (-(f k : EReal)) (-(f k' : EReal)) == 1#1) = _
  have e : (-(f k : EReal) > -(f k' : EReal)) ↔ f k < f k' := by
    rw [gt_iff_lt, EReal.neg_lt_neg_iff, EReal.coe_lt_coe_iff]
  by_cases hk : f k < f k'
  · simp [Ideal.cmp, hk]
  · simp [Ideal.cmp, hk]

theorem negated_real (h : Points A x0 x1) (b : Fin 8) (n : Fin 4096) (p : Fin 1024) :
    val_main_v13 (F := Ideal) x0 x1 (ix3 b n p) = -(dist A b n p : EReal) :=
  congrArg (fun x : EReal => -x) (dist_real h b n p)

/-- The sort's first three positions are the three nearest points. -/
theorem order_real (h : Points A x0 x1) (b : Fin 8) (n : Fin 4096) (i : Fin 3) :
    order (val_main_v13 (F := Ideal) x0 x1) b n (i.castLE (by decide)) = nearest (dist A b n) i := by
  unfold order nearest
  simp only [negated_real h]
  rw [compare_real]

theorem index_real (h : Points A x0 x1) (b : Fin 8) (n : Fin 4096) (i : Fin 3) :
    val_main_indices (F := Ideal) x0 x1 (ix3 b n i) = BitVec.ofNat 32 (nearest (dist A b n) i).val := by
  refine (topK_apply _ b n i).2.trans ?_
  rw [order_real h]

theorem value_real (h : Points A x0 x1) (b : Fin 8) (n : Fin 4096) (i : Fin 3) :
    val_main_v14 (F := Ideal) x0 x1 (ix3 b n i) = (dist A b n (nearest (dist A b n) i) : EReal) := by
  show -(val_main_values (F := Ideal) x0 x1 (ix3 b n i) : EReal) = _
  have e : val_main_values (F := Ideal) x0 x1 (ix3 b n i) = -(dist A b n (nearest (dist A b n) i) : EReal) := by
    refine (topK_apply _ b n i).1.trans ?_
    rw [order_real h, negated_real h]
  rw [e, neg_neg]

/-! ## The weights -/

theorem inv_real (h : Points A x0 x1) (b : Fin 8) (n : Fin 4096) (i : Fin 3) :
    val_main_v18 (F := Ideal) x0 x1 (ix3 b n i) = (invDist (dist A b n) i : EReal) := by
  have hv : val_main_v16 (F := Ideal) x0 x1 (ix3 b n i)
      = ((dist A b n (nearest (dist A b n) i) + eps8 : ℝ) : EReal) := by
    pointwise [val_main_v16, val_main_v15, val_main_cst_2]
    rw [value_real h, word_eps8, EReal.coe_add]
  pointwise [val_main_v18, val_main_v17, val_main_cst_3]
  rw [hv]
  have hp : 0 < dist A b n (nearest (dist A b n) i) + eps8 := add_pos_of_nonneg_of_pos (dist_nonneg A b n _) eps8_pos
  rw [← EReal.coe_one, div_real _ _ hp.ne']
  rfl

/-- The reference's weights are the specification's. -/
theorem weight_real (h : Points A x0 x1) (b : Fin 8) (n : Fin 4096) (i : Fin 3) :
    val_main_v22 (F := Ideal) x0 x1 (ix3 b n i) = (weight (dist A b n) i : EReal) := by
  pointwise [val_main_v22, val_main_v21, val_main_v20, val_main_v19, val_main_cst_4]
  simp only [inv_real h, sum_real]
  exact div_real _ _ (invSum_pos _ (dist_nonneg A b n)).ne'

end Cert.RefTopk

end
-- ==== Proof.RefGather.lean ====
/-
  The reference's read of the source features at the three nearest points: a gather along the last axis whose positions
  are all in range, so that its wrap of negative positions and its fill of positions out of range never act.
-/
module

public import proofs.«01_k».proof.Proof.Gen.ReferenceIdeal.Read
public import proofs.«01_k».proof.Proof.Reals

@[expose] public section

set_option maxRecDepth 16384

noncomputable section

namespace Cert.RefGather

open Idealize.ShloMosaic Cert.ReferenceIdeal Cert.ReferenceIdeal.Gen Cert.ReferenceIdeal.Read Cert.Spec Cert.Reals Cert.Select

/-- The gather at a batch, a channel and a flat position: the features at the position the index array holds there. -/
theorem gather_apply (x : FVec Ideal S8x256x1024 .f32) (y : IVec S8x256x12288x1 32) (b : Fin 8) (c : Fin 256)
    (j : Fin 12288) (q : Fin 1024) (hq : y (ix4 b c j 0) = BitVec.ofNat 32 q.val) :
    Host.gather gather_S8x256x1024_S8x256x12288x1_S8x256x12288_n_2_01_01_2_3_111 x y (ix3 b c j) = x (ix3 b c q) := by
  let d := gather_S8x256x1024_S8x256x12288x1_S8x256x12288_n_2_01_01_2_3_111
  have hoff : ∀ a, d.offCoord (ix3 b c j) a = 0 := fun a => by
    refine d.offCoord_eq_zero _ _ fun h => ?_
    have h' := (d.mem_sKept a).mp h
    match a with
    | ⟨0, _⟩ => exact h'.2 (show (0 : Fin 3) ∈ ([0, 1] : List (Fin 3)) by decide)
    | ⟨1, _⟩ => exact h'.2 (show (1 : Fin 3) ∈ ([0, 1] : List (Fin 3)) by decide)
    | ⟨2, _⟩ => exact h'.1 (show (2 : Fin 3) ∈ ([2] : List (Fin 3)) by decide)
  have m0 : (0 : Fin 3) ∈ d.operandBatchingDims := show (0 : Fin 3) ∈ ([0, 1] : List (Fin 3)) by decide
  have m1 : (1 : Fin 3) ∈ d.operandBatchingDims := show (1 : Fin 3) ∈ ([0, 1] : List (Fin 3)) by decide
  have m2 : (2 : Fin 3) ∈ d.startIndexMap := show (2 : Fin 3) ∈ ([2] : List (Fin 3)) by decide
  unfold Host.gather
  congr 1
  funext a
  refine Fin.ext ?_
  show d.start (ix3 b c j) y a + d.batchCoord (ix3 b c j) a + d.offCoord (ix3 b c j) a = _
  rw [hoff, Nat.add_zero]
  match a with
  | ⟨0, _⟩ =>
    show d.start (ix3 b c j) y (0 : Fin 3) + d.batchCoord (ix3 b c j) (0 : Fin 3) = _
    rw [d.start_batching _ _ _ m0, Nat.zero_add]
    unfold GatherDims.batchCoord
    rw [dif_pos m0]
    rfl
  | ⟨1, _⟩ =>
    show d.start (ix3 b c j) y (1 : Fin 3) + d.batchCoord (ix3 b c j) (1 : Fin 3) = _
    rw [d.start_batching _ _ _ m1, Nat.zero_add]
    unfold GatherDims.batchCoord
    rw [dif_pos m1]
    rfl
  | ⟨2, _⟩ =>
    show d.start (ix3 b c j) y (2 : Fin 3) + d.batchCoord (ix3 b c j) (2 : Fin 3) = _
    rw [d.batchCoord_eq_zero _ _ (show (2 : Fin 3) ∉ ([0, 1] : List (Fin 3)) by decide), Nat.add_zero]
    unfold GatherDims.start
    rw [dif_pos m2]
    have hsi : d.siIdx (ix3 b c j) ⟨List.idxOf (2 : Fin 3) d.startIndexMap,
        List.idxOf_lt_length_iff.2 m2⟩ = ix4 b c j 0 := by
      funext e
      refine Fin.ext ?_
      match e with
      | ⟨0, _⟩ => rfl
      | ⟨1, _⟩ => rfl
      | ⟨2, _⟩ => rfl
      | ⟨3, _⟩ => rfl
    refine (congrArg (fun e => min (y e).toInt.toNat (1024 - 1)) hsi).trans ?_
    rw [hq, toInt_index]
    have := q.isLt
    show min ((q.val : Int).toNat) 1023 = q.val
    omega

/-- An `and` along an axis of one entry is that entry. -/
theorem all_apply (y : IVec S8x256x12288x1 1) (b : Fin 8) (c : Fin 256) (j : Fin 12288) :
    Host.reduce IntOp.andi y (constantI S_ 1 1#1) reducesTo_S8x256x12288x1_S8x256x12288_d3 h_S_ (ix3 b c j)
      = y (ix4 b c j 0) := by
  pointwise
  rw [Finset.univ_unique, Finset.fold_singleton]
  show IntOp.andi (y (ix4 b c j 0)) 1#1 = _
  rcases BitVec.eq_zero_or_eq_one (y (ix4 b c j 0)) with h | h <;> rw [h] <;> rfl

end Cert.RefGather

end
-- ==== Proof.RefInterp.lean ====
/-
  The reference's interpolation: the source features read at the three nearest points and summed with their weights, and
  the first layer's linear map of the result followed by the query points' own features.
-/
module

public import proofs.«01_k».proof.Proof.RefTopk
public import proofs.«01_k».proof.Proof.RefGather

@[expose] public section

set_option maxRecDepth 16384

noncomputable section

namespace Cert.RefInterp

open Idealize.ShloMosaic Cert.ReferenceIdeal Cert.ReferenceIdeal.Gen Cert.ReferenceIdeal.Read Cert.Spec Cert.Reals
open Cert.Select Cert.RefTopk Cert.RefGather

variable {A : Args} {x0 : FVec Ideal S8x4096x3 .f32} {x1 : FVec Ideal S8x1024x3 .f32}

/-! ## The positions -/

/-- The flat position of the `i`-th nearest of query point `n`. -/
def flat (n : Fin 4096) (i : Fin 3) : Fin 12288 := ⟨n.val * 3 + i.val, by omega⟩

theorem flatten_apply (y : IVec S8x4096x3 32) (b : Fin 8) (n : Fin 4096) (i : Fin 3) :
    shapeCast _ y shapeCasts_S8x4096x3_S8x1x12288 (ix3 b 0 (flat n i)) = y (ix3 b n i) := by
  pointwise
  have h1 : (⟨(flat n i).val / 3, by have := (flat n i).isLt; omega⟩ : Fin 4096) = n := Fin.ext (by
    show (n.val * 3 + i.val) / 3 = n.val
    omega)
  have h2 : (⟨(flat n i).val % 3, Nat.mod_lt _ (by decide)⟩ : Fin 3) = i := Fin.ext (by
    show (n.val * 3 + i.val) % 3 = i.val
    omega)
  exact (congrArg (fun q => y (ix3 b q _)) h1).trans (congrArg (fun q => y (ix3 b n q)) h2)

theorem unflatten_apply (z : FVec Ideal S8x256x12288 .f32) (b : Fin 8) (c : Fin 256) (n : Fin 4096) (i : Fin 3) :
    shapeCast _ z shapeCasts_S8x256x12288_S8x256x4096x3 (ix4 b c n i) = z (ix3 b c (flat n i)) := by
  pointwise
  rfl

/-- The positions spread over the channels. -/
theorem spread_apply (y : IVec S8x1x12288 32) (b : Fin 8) (c : Fin 256) (j : Fin 12288) :
    broadcastInDim S8x256x12288 ![0, 1, 2] bcast_S8x1x12288_S8x256x12288_0_1_2 y (ix3 b c j) = y (ix3 b 0 j) := by
  pointwise

theorem position_real (h : Points A x0 x1) (b : Fin 8) (c : Fin 256) (n : Fin 4096) (i : Fin 3) :
    val_main_v24 (F := Ideal) x0 x1 (ix3 b c (flat n i)) = BitVec.ofNat 32 (nearest (dist A b n) i).val :=
  (spread_apply (val_main_v23 (F := Ideal) x0 x1) b c (flat n i)).trans
    ((flatten_apply (val_main_indices (F := Ideal) x0 x1) b n i).trans (index_real h b n i))

/-! ## The wrap and the range check, on positions in range -/

/-- A negative position counted from the end. -/
def wrap (y : IVec S8x256x12288 32) : IVec S8x256x12288 32 :=
  select (cmpi .slt y (broadcastInDim S8x256x12288 ![] bcast_S_S8x256x12288 (constantI S_ 32 0#32)))
    (addi y (broadcastInDim S8x256x12288 ![] bcast_S_S8x256x12288 (constantI S_ 32 1024#32))) y

theorem wrap_apply (y : IVec S8x256x12288 32) (b : Fin 8) (c : Fin 256) (j : Fin 12288) (q : Fin 1024)
    (h : y (ix3 b c j) = BitVec.ofNat 32 q.val) : wrap y (ix3 b c j) = BitVec.ofNat 32 q.val := by
  pointwise [wrap]
  rw [h]
  have hc : IntOp.cmpi CmpIPredicate.slt (BitVec.ofNat 32 q.val) 0#32 = 0#1 := by
    have : ¬ ((q.val : ℤ) < 0) := by omega
    simp [IntOp.cmpi, BitVec.slt, toInt_index, this]
  rw [hc]
  rfl

/-- Whether a position lies in the row. -/
def inRange (y : IVec S8x256x12288x1 32) : IVec S8x256x12288x1 1 :=
  andi (cmpi .sge y (broadcastInDim S8x256x12288x1 ![] bcast_S_S8x256x12288x1 (constantI S_ 32 0#32)))
    (cmpi .sle y (broadcastInDim S8x256x12288x1 ![0, 1, 2, 3] bcast_S1x1x1x1_S8x256x12288x1_0_1_2_3
      (broadcastInDim S1x1x1x1 ![3] bcast_S1_S1x1x1x1_3 (constantI S1 32 1023#32))))

theorem inRange_apply (y : IVec S8x256x12288x1 32) (b : Fin 8) (c : Fin 256) (j : Fin 12288) (q : Fin 1024)
    (h : y (ix4 b c j 0) = BitVec.ofNat 32 q.val) : inRange y (ix4 b c j 0) = 1#1 := by
  pointwise [inRange]
  rw [h]
  have hq := q.isLt
  have h1 : (1023#32).toInt = 1023 := by decide
  have hge : IntOp.cmpi CmpIPredicate.sge (BitVec.ofNat 32 q.val) 0#32 = 1#1 := by
    simp [IntOp.cmpi, BitVec.sle, toInt_index]
  have hle : IntOp.cmpi CmpIPredicate.sle (BitVec.ofNat 32 q.val) 1023#32 = 1#1 := by
    have : ((q.val : ℤ) ≤ 1023) := by omega
    simp [IntOp.cmpi, BitVec.sle, toInt_index, h1, this]
  rw [hge, hle]
  rfl

theorem column_apply (w : IVec S8x256x12288 32) (b : Fin 8) (c : Fin 256) (j : Fin 12288) :
    shapeCast _ w shapeCasts_S8x256x12288_S8x256x12288x1 (ix4 b c j 0) = w (ix3 b c j) := by
  pointwise

/-- The reference's read along the last axis, of an array at positions. -/
def take (x : FVec Ideal S8x256x1024 .f32) (y : IVec S8x256x12288x1 32) : FVec Ideal S8x256x12288 .f32 :=
  select (Host.reduce IntOp.andi (inRange y) (constantI S_ 1 1#1) reducesTo_S8x256x12288x1_S8x256x12288_d3 h_S_)
    (Host.gather gather_S8x256x1024_S8x256x12288x1_S8x256x12288_n_2_01_01_2_3_111 x y)
    (broadcastInDim S8x256x12288 ![] bcast_S_S8x256x12288 (constant S_ .f32 0x7FC00000#32))

theorem select_at {s : Shape} (m : IVec s 1) (x y : FVec Ideal s .f32) (i : s.Idx) (h : m i = 1#1) :
    select m x y i = x i := by
  show Scalar.select (m i) (x i) (y i) = x i
  rw [h]
  rfl

theorem take_apply (x : FVec Ideal S8x256x1024 .f32) (y : IVec S8x256x12288x1 32) (b : Fin 8) (c : Fin 256)
    (j : Fin 12288) (q : Fin 1024) (h : y (ix4 b c j 0) = BitVec.ofNat 32 q.val) :
    take x y (ix3 b c j) = x (ix3 b c q) := by
  have hm := (all_apply (inRange y) b c j).trans (inRange_apply y b c j q h)
  unfold take
  exact (select_at _ _ _ _ hm).trans (gather_apply x y b c j q h)

theorem taken_eq (x3 : FVec Ideal S8x256x1024 .f32) :
    val_main_v25 (F := Ideal) x0 x1 x3
      = take x3 (shapeCast _ (wrap (val_main_v24 (F := Ideal) x0 x1)) shapeCasts_S8x256x12288_S8x256x12288x1) := by
  unfold val_main_v25 val_main_call0_v14 val_main_call0_cst val_main_call0_v13 val_main_call0_v12 val_main_call0_c_3
    val_main_call0_v11 val_main_call0_v10 val_main_call0_v9 val_main_call0_v8 val_main_call0_v7 val_main_call0_v6
    val_main_call0_c_2 val_main_call0_c_1 val_main_call0_v5 val_main_call0_v4 val_main_call0_v3 val_main_call0_v2
    val_main_call0_c_0 val_main_call0_v1 val_main_call0_v0 val_main_call0_c take inRange wrap
  with_reducible rfl

/-! ## The interpolated features -/

/-- Features against weights, summed over the three. -/
def weighted (f : FVec Ideal S8x256x4096x3 .f32) (w : FVec Ideal S8x4096x3 .f32) : FVec Ideal S8x256x4096 .f32 :=
  Host.reduceAdd
    (mulf f (broadcastInDim S8x256x4096x3 ![0, 1, 2, 3] bcast_S8x1x4096x3_S8x256x4096x3_0_1_2_3
      (broadcastInDim S8x1x4096x3 ![0, 2, 3] bcast_S8x4096x3_S8x1x4096x3_0_2_3 w)))
    (constant S_ .f32 0x00000000#32) reducesTo_S8x256x4096x3_S8x256x4096_d3 h_S_

theorem weighted_apply (f : FVec Ideal S8x256x4096x3 .f32) (w : FVec Ideal S8x4096x3 .f32) (b : Fin 8) (c : Fin 256)
    (n : Fin 4096) : weighted f w (ix3 b c n) = ∑ i, f (ix4 b c n i) * w (ix3 b n i) := by
  pointwise [weighted]

theorem interpolated_eq (x3 : FVec Ideal S8x256x1024 .f32) :
    val_main_v30 (F := Ideal) x0 x1 x3
      = weighted (shapeCast _ (val_main_v25 (F := Ideal) x0 x1 x3) shapeCasts_S8x256x12288_S8x256x4096x3)
          (val_main_v22 (F := Ideal) x0 x1) := rfl

theorem interp_apply (h : Points A x0 x1) (x3 : FVec Ideal S8x256x1024 .f32)
    (h3 : ∀ b c p, x3 (ix3 b c p) = A.feat2 b c p) (b : Fin 8) (c : Fin 256) (n : Fin 4096) :
    val_main_v30 (F := Ideal) x0 x1 x3 (ix3 b c n) = interp A b n c := by
  rw [interpolated_eq, weighted_apply]
  have hf : ∀ i, shapeCast _ (val_main_v25 (F := Ideal) x0 x1 x3) shapeCasts_S8x256x12288_S8x256x4096x3 (ix4 b c n i)
      = A.feat2 b c (nearest (dist A b n) i) := fun i => by
    rw [unflatten_apply, taken_eq,
      take_apply x3 _ b c (flat n i) (nearest (dist A b n) i)
        ((column_apply _ b c _).trans (wrap_apply _ b c _ _ (position_real h b c n i))), h3]
  simp only [hf, weight_real h]
  rfl

/-! ## The first linear map -/

/-- The interpolated features followed by the query points' own. -/
def joined (y : FVec Ideal S8x256x4096 .f32) (x2 : FVec Ideal S8x128x4096 .f32) : FVec Ideal S8x384x4096 .f32 :=
  concatenate S8x384x4096 1 [⟨S8x256x4096, y⟩, ⟨S8x128x4096, x2⟩] concatenates_S8x256x4096_S8x128x4096_S8x384x4096_d1

theorem joined_left (y : FVec Ideal S8x256x4096 .f32) (x2 : FVec Ideal S8x128x4096 .f32) (b : Fin 8) (k : Fin 256)
    (n : Fin 4096) : joined y x2 (ix3 b (Fin.castAdd 128 k) n) = y (ix3 b k n) := by
  pointwise [joined]
  rw [dif_pos (show (Fin.castAdd 128 k).val < 256 from k.isLt)]
  rfl

theorem joined_right (y : FVec Ideal S8x256x4096 .f32) (x2 : FVec Ideal S8x128x4096 .f32) (b : Fin 8) (k : Fin 128)
    (n : Fin 4096) : joined y x2 (ix3 b (Fin.natAdd 256 k) n) = x2 (ix3 b k n) := by
  pointwise [joined]
  rw [dif_neg (show ¬ (Fin.natAdd 256 k).val < 256 from by simp)]
  refine congrArg (fun q => x2 (ix3 b q n)) (Fin.ext ?_)
  show 256 + k.val - 256 = k.val
  omega

/-- A linear map of 384 channels to 256, with its bias. -/
def linear (y : FVec Ideal S8x384x4096 .f32) (w : FVec Ideal S256x384 .f32) (u : FVec Ideal S256 .f32) :
    FVec Ideal S8x256x4096 .f32 :=
  addf
    (transpose S8x256x4096 [0, 2, 1]
      (Host.dotGeneral (F := Ideal) dot_S8x384x4096_S256x384_S8x4096x256_1_1_02_0_n_n none y w)
      transposes_S8x4096x256_S8x256x4096_0_2_1)
    (broadcastInDim S8x256x4096 ![0, 1, 2] bcast_S1x256x1_S8x256x4096_0_1_2
      (broadcastInDim S1x256x1 ![1] bcast_S256_S1x256x1_1 u))

theorem linear_apply (y : FVec Ideal S8x384x4096 .f32) (w : FVec Ideal S256x384 .f32) (u : FVec Ideal S256 .f32)
    (b : Fin 8) (o : Fin 256) (n : Fin 4096) :
    linear y w u (ix3 b o n) = ∑ k, y (ix3 b k n) * w (ix2 o k) + u (ix1 o) := by
  pointwise [linear]

theorem lin0_eq (x2 : FVec Ideal S8x128x4096 .f32) (x3 : FVec Ideal S8x256x1024 .f32) (x4 : FVec Ideal S256x384 .f32)
    (x5 : FVec Ideal S256 .f32) :
    val_main_v36 (F := Ideal) x0 x1 x2 x3 x4 x5 = linear (joined (val_main_v30 (F := Ideal) x0 x1 x3) x2) x4 x5 := rfl

theorem lin0_apply (h : Points A x0 x1) (x2 : FVec Ideal S8x128x4096 .f32) (x3 : FVec Ideal S8x256x1024 .f32)
    (x4 : FVec Ideal S256x384 .f32) (x5 : FVec Ideal S256 .f32)
    (h2 : ∀ b c n, x2 (ix3 b c n) = A.feat1 b c n) (h3 : ∀ b c p, x3 (ix3 b c p) = A.feat2 b c p)
    (h4 : ∀ o k, x4 (ix2 o k) = A.W0 o k) (h5 : ∀ o, x5 (ix1 o) = A.b0 o)
    (b : Fin 8) (n : Fin 4096) (o : Fin 256) :
    val_main_v36 (F := Ideal) x0 x1 x2 x3 x4 x5 (ix3 b o n) = lin0 A o b n := by
  rw [lin0_eq, linear_apply]
  have hs : ∀ f : Fin (256 + 128) → EReal, ∑ k, f k = (∑ k : Fin 256, f (Fin.castAdd 128 k)) + ∑ k : Fin 128, f (Fin.natAdd 256 k) :=
    fun f => Fin.sum_univ_add f
  rw [hs]
  simp only [joined_left, joined_right, interp_apply h x3 h3, h2, h4, h5]
  rfl

end Cert.RefInterp

end
-- ==== Proof.RefValue.lean ====
/-
  The reference's result, of arguments with real points and scales: the specification's second layer.
-/
module

public import proofs.«01_k».proof.Proof.RefNorm
public import proofs.«01_k».proof.Proof.RefInterp

@[expose] public section

set_option maxRecDepth 16384

noncomputable section

namespace Cert.RefValue

open Idealize.ShloMosaic Cert.ReferenceIdeal Cert.ReferenceIdeal.Gen Cert.ReferenceIdeal.Read Cert.Spec Cert.Reals
open Cert.RefNorm Cert.RefInterp Cert.RefTopk

/-! ## The two normalisations -/

theorem fits256 : Fits 256 :=
  ⟨reducesTo_S8x256x4096_S256_d0_2, h_S_, bcast_S256_S1x256x1_1, bcast_S1x256x1_S8x256x4096_0_1_2, bcast_S_S1x256x1,
    bcast_S_S8x256x4096⟩

theorem fits128 : Fits 128 :=
  ⟨reducesTo_S8x128x4096_S128_d0_2, h_S_, bcast_S128_S1x128x1_1, bcast_S1x128x1_S8x128x4096_0_1_2, bcast_S_S1x128x1,
    bcast_S_S8x128x4096⟩

variable (x0 : FVec Ideal S8x4096x3 .f32) (x1 : FVec Ideal S8x1024x3 .f32) (x2 : FVec Ideal S8x128x4096 .f32)
  (x3 : FVec Ideal S8x256x1024 .f32) (x4 : FVec Ideal S256x384 .f32) (x5 x6 x7 : FVec Ideal S256 .f32)
  (x8 : FVec Ideal S128x256 .f32) (x9 x10 x11 : FVec Ideal S128 .f32)

theorem layer0_eq :
    val_main_v56 (F := Ideal) x0 x1 x2 x3 x4 x5 x6 x7
      = normStage fits256 (val_main_v36 (F := Ideal) x0 x1 x2 x3 x4 x5) x6 x7 := rfl

theorem layer1_eq :
    val_main_v81 (F := Ideal) x0 x1 x2 x3 x4 x5 x6 x7 x8 x9 x10 x11
      = normStage fits128 (val_main_v61 (F := Ideal) x0 x1 x2 x3 x4 x5 x6 x7 x8 x9) x10 x11 := rfl

/-! ## The second linear map -/

/-- A linear map of 256 channels to 128, with its bias. -/
def linear1 (y : FVec Ideal S8x256x4096 .f32) (w : FVec Ideal S128x256 .f32) (u : FVec Ideal S128 .f32) :
    FVec Ideal S8x128x4096 .f32 :=
  addf
    (transpose S8x128x4096 [0, 2, 1]
      (Host.dotGeneral (F := Ideal) dot_S8x256x4096_S128x256_S8x4096x128_1_1_02_0_n_n none y w)
      transposes_S8x4096x128_S8x128x4096_0_2_1)
    (broadcastInDim S8x128x4096 ![0, 1, 2] bcast_S1x128x1_S8x128x4096_0_1_2
      (broadcastInDim S1x128x1 ![1] bcast_S128_S1x128x1_1 u))

theorem linear1_apply (y : FVec Ideal S8x256x4096 .f32) (w : FVec Ideal S128x256 .f32) (u : FVec Ideal S128 .f32)
    (b : Fin 8) (o : Fin 128) (n : Fin 4096) :
    linear1 y w u (ix3 b o n) = ∑ k, y (ix3 b k n) * w (ix2 o k) + u (ix1 o) := by
  pointwise [linear1]

theorem lin1_eq :
    val_main_v61 (F := Ideal) x0 x1 x2 x3 x4 x5 x6 x7 x8 x9
      = linear1 (val_main_v56 (F := Ideal) x0 x1 x2 x3 x4 x5 x6 x7) x8 x9 := rfl

/-! ## The result -/

/-- The reference's arguments hold those of a specification. -/
structure Holds (A : Args) : Prop where
  points : Points A x0 x1
  feat1 : ∀ b c n, x2 (ix3 b c n) = A.feat1 b c n
  feat2 : ∀ b c p, x3 (ix3 b c p) = A.feat2 b c p
  W0 : ∀ o k, x4 (ix2 o k) = A.W0 o k
  b0 : ∀ o, x5 (ix1 o) = A.b0 o
  g0 : ∀ o, x6 (ix1 o) = (A.g0 o : EReal)
  be0 : ∀ o, x7 (ix1 o) = A.be0 o
  W1 : ∀ o k, x8 (ix2 o k) = A.W1 o k
  b1 : ∀ o, x9 (ix1 o) = A.b1 o
  g1 : ∀ o, x10 (ix1 o) = (A.g1 o : EReal)
  be1 : ∀ o, x11 (ix1 o) = A.be1 o

variable {x0 x1 x2 x3 x4 x5 x6 x7 x8 x9 x10 x11} {A : Args}

theorem layer0_apply (h : Holds x0 x1 x2 x3 x4 x5 x6 x7 x8 x9 x10 x11 A) (b : Fin 8) (n : Fin 4096) (o : Fin 256) :
    val_main_v56 (F := Ideal) x0 x1 x2 x3 x4 x5 x6 x7 (ix3 b o n) = layer0 A o b n := by
  have hz : channel (val_main_v36 (F := Ideal) x0 x1 x2 x3 x4 x5) o = lin0 A o := funext fun b => funext fun n =>
    lin0_apply h.points x2 x3 x4 x5 h.feat1 h.feat2 h.W0 h.b0 b n o
  rw [layer0_eq, normStage_apply fits256 _ x6 x7 A.g0 h.g0, hz, h.be0]
  rfl

theorem lin1_apply (h : Holds x0 x1 x2 x3 x4 x5 x6 x7 x8 x9 x10 x11 A) (b : Fin 8) (n : Fin 4096) (o : Fin 128) :
    val_main_v61 (F := Ideal) x0 x1 x2 x3 x4 x5 x6 x7 x8 x9 (ix3 b o n) = lin1 A o b n := by
  rw [lin1_eq, linear1_apply]
  simp only [layer0_apply h, h.W1, h.b1]
  rfl

/-- The reference's result is the specification's second layer. -/
theorem result (h : Holds x0 x1 x2 x3 x4 x5 x6 x7 x8 x9 x10 x11 A) (b : Fin 8) (o : Fin 128) (n : Fin 4096) :
    val_main_v81 (F := Ideal) x0 x1 x2 x3 x4 x5 x6 x7 x8 x9 x10 x11 (ix3 b o n) = layer1 A o b n := by
  have hz : channel (val_main_v61 (F := Ideal) x0 x1 x2 x3 x4 x5 x6 x7 x8 x9) o = lin1 A o := funext fun b => funext fun n =>
    lin1_apply h b n o
  rw [layer1_eq, normStage_apply fits128 _ x10 x11 A.g1 h.g1, hz, h.be1]
  rfl

end Cert.RefValue

end
-- ==== Proof.Finite.lean ====
/-
  What the precondition says: the points and the scale factors are real numbers, so the twelve arguments are those of
  a specification.
-/
module

public import proofs.«01_k».proof.Pre_finite_points_scales
public import proofs.«01_k».proof.Proof.Reals
public import Idealize.ShloMosaic.Lib.ReduceAll

@[expose] public section

set_option maxRecDepth 16384

noncomputable section

namespace Cert.Finite

open Idealize.ShloMosaic Cert.Pre_finite_points_scales Cert.Spec Cert.Reals

/-- The shape conditions of the precondition hold. -/
instance facts : Cert.Pre_finite_points_scales.Facts where
  bcast_S_S8x4096x3 := by decide
  reducesTo_S8x4096x3_S_d0_1_2 := by decide
  h_S_ := by decide
  bcast_S_S8x1024x3 := by decide
  reducesTo_S8x1024x3_S_d0_1_2 := by decide
  bcast_S_S256 := by decide
  reducesTo_S256_S_d0 := by decide
  bcast_S_S128 := by decide
  reducesTo_S128_S_d0 := by decide

/-- A number whose absolute value is below the infinite one is real. -/
theorem real_of_abs_lt (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- One array's part of the precondition: all its entries have absolute value below the infinite one. -/
def allFinite {s : Shape} {axes : List (Fin s.rank)} (x : FVec Ideal s .f32) (hb : S_.BroadcastsInDim s ![])
    (hr : s.ReducesTo axes S_) : IVec S_ 1 :=
  Host.reduce IntOp.andi (cmpf .olt (Host.absf x) (broadcastInDim s ![] hb (constant S_ .f32 0x7F800000#32)))
    (constantI S_ 1 1#1) hr facts.h_S_

theorem real_of_allFinite {s : Shape} {axes : List (Fin s.rank)} (x : FVec Ideal s .f32) (hb : S_.BroadcastsInDim s ![])
    (hr : s.ReducesTo axes S_) (e : allFinite x hb hr ix0 = 1#1) : ∃ f : s.Idx → ℝ, ∀ i, x i = (f i : EReal) := by
  haveI : Subsingleton S_.Idx := ⟨fun a b => funext fun k => k.elim0⟩
  refine ⟨fun i => (x i).toReal, fun i => ?_⟩
  have h := Host.reduce_andi_all _ _ hr facts.h_S_ ix0 e i
  have h' : Ideal.cmp .olt (max (x i) (-(x i))) (Ideal.ofBits .f32 0x7F800000#32) = 1#1 := h
  rw [word_inf] at h'
  obtain ⟨r, hr⟩ := real_of_abs_lt (x i) h'
  show x i = ((x i).toReal : EReal)
  rw [hr, EReal.toReal_coe]

/-- The twelve arguments hold those of a specification. -/
structure Arrays (x0 : FVec Ideal S8x4096x3 .f32) (x1 : FVec Ideal S8x1024x3 .f32) (x2 : FVec Ideal S8x128x4096 .f32)
    (x3 : FVec Ideal S8x256x1024 .f32) (x4 : FVec Ideal S256x384 .f32) (x5 x6 x7 : FVec Ideal S256 .f32)
    (x8 : FVec Ideal S128x256 .f32) (x9 x10 x11 : FVec Ideal S128 .f32) (A : Args) : Prop where
  xyz1 : ∀ b n k, x0 (ix3 b n k) = (A.xyz1 b n k : EReal)
  xyz2 : ∀ b p k, x1 (ix3 b p k) = (A.xyz2 b p k : EReal)
  feat1 : ∀ b k n, x2 (ix3 b k n) = A.feat1 b k n
  feat2 : ∀ b k p, x3 (ix3 b k p) = A.feat2 b k p
  W0 : ∀ o k, x4 (ix2 o k) = A.W0 o k
  b0 : ∀ o, x5 (ix1 o) = A.b0 o
  g0 : ∀ o, x6 (ix1 o) = (A.g0 o : EReal)
  be0 : ∀ o, x7 (ix1 o) = A.be0 o
  W1 : ∀ o k, x8 (ix2 o k) = A.W1 o k
  b1 : ∀ o, x9 (ix1 o) = A.b1 o
  g1 : ∀ o, x10 (ix1 o) = (A.g1 o : EReal)
  be1 : ∀ o, x11 (ix1 o) = A.be1 o

/-- Arguments of which the precondition holds are those of a specification. -/
theorem arrays (x0 : FVec Ideal S8x4096x3 .f32) (x1 : FVec Ideal S8x1024x3 .f32) (x2 : FVec Ideal S8x128x4096 .f32)
    (x3 : FVec Ideal S8x256x1024 .f32) (x4 : FVec Ideal S256x384 .f32) (x5 x6 x7 : FVec Ideal S256 .f32)
    (x8 : FVec Ideal S128x256 .f32) (x9 x10 x11 : FVec Ideal S128 .f32)
    (h : Cert.Pre_finite_points_scales.fn (F := Ideal) x0 x1 x2 x3 x4 x5 x6 x7 x8 x9 x10 x11 ix0 = 1#1) :
    ∃ A, Arrays x0 x1 x2 x3 x4 x5 x6 x7 x8 x9 x10 x11 A := by
  have h' : IntOp.andi (IntOp.andi (IntOp.andi
        (allFinite x0 facts.bcast_S_S8x4096x3 facts.reducesTo_S8x4096x3_S_d0_1_2 ix0)
        (allFinite x1 facts.bcast_S_S8x1024x3 facts.reducesTo_S8x1024x3_S_d0_1_2 ix0))
        (allFinite x6 facts.bcast_S_S256 facts.reducesTo_S256_S_d0 ix0))
        (allFinite x10 facts.bcast_S_S128 facts.reducesTo_S128_S_d0 ix0) = 1#1 := h
  simp only [IntOp.andi_eq_one] at h'
  obtain ⟨⟨⟨h0, h1⟩, h6⟩, h10⟩ := h'
  obtain ⟨f0, h0⟩ := real_of_allFinite _ _ _ h0
  obtain ⟨f1, h1⟩ := real_of_allFinite _ _ _ h1
  obtain ⟨f6, h6⟩ := real_of_allFinite _ _ _ h6
  obtain ⟨f10, h10⟩ := real_of_allFinite _ _ _ h10
  exact ⟨⟨fun b n k => f0 (ix3 b n k), fun b p k => f1 (ix3 b p k), fun b k n => x2 (ix3 b k n), fun b k p => x3 (ix3 b k p),
      fun o k => x4 (ix2 o k), fun o => x5 (ix1 o), fun o => f6 (ix1 o), fun o => x7 (ix1 o), fun o k => x8 (ix2 o k),
      fun o => x9 (ix1 o), fun o => f10 (ix1 o), fun o => x11 (ix1 o)⟩,
    fun _ _ _ => h0 _, fun _ _ _ => h1 _, fun _ _ _ => rfl, fun _ _ _ => rfl, fun _ _ => rfl, fun _ => rfl,
    fun _ => h6 _, fun _ => rfl, fun _ _ => rfl, fun _ => rfl, fun _ => h10 _, fun _ => rfl⟩

end Cert.Finite

end
-- ==== Proof.Equation.lean ====
/-
  The two programs end with the same result array: from arguments of which the precondition holds both hold the
  specification's second layer.
-/
module

public import proofs.«01_k».proof.Defs
public import proofs.«01_k».proof.Proof.KRun
public import proofs.«01_k».proof.Proof.KValue
public import proofs.«01_k».proof.Proof.RefValue
public import proofs.«01_k».proof.Proof.Finite

@[expose] public section

set_option maxRecDepth 16384

noncomputable section

namespace Cert.Equation

open Idealize.ShloMosaic Idealize.SL.Sem Cert.Spec

/-- The kernel's memory at launch. -/
abbrev KMem : Type :=
  (ℓ : Loc Cert.KernelIdeal.nD Cert.KernelIdeal.τ Cert.KernelIdeal.sig) → Buf (Elt Ideal) ℓ

/-- The array the kernel ends with. -/
abbrev kernelResult (m : KMem) (ρ : Dev Cert.KernelIdeal.nD → PrngReg) (c : Dev Cert.KernelIdeal.nD) :
    FVec Ideal Cert.KernelIdeal.S8x128x4096 .f32 :=
  Cert.KernelIdeal.Gen.W6 m ρ c (Proc.devRef .tc Cert.KernelIdeal.main_v15)

/-- The precondition gives the arguments as those of a specification. -/
theorem launch (m : KMem) (h : Cert.Pre_KernelIdeal_finite_points_scales m) (c : Dev Cert.KernelIdeal.nD) :
    ∃ A, KValue.Launch m A c := by
  obtain ⟨A, hA⟩ := Finite.arrays _ _ _ _ _ _ _ _ _ _ _ _ (congrFun (h c) ix0)
  exact ⟨A, hA.xyz1, hA.xyz2, hA.feat1, hA.feat2, hA.W0, hA.b0, hA.g0, hA.be0, hA.W1, hA.b1, hA.g1, hA.be1⟩

/-- On the same arguments the two results are one array. -/
theorem results_eq (m : KMem) (ρ : Dev Cert.KernelIdeal.nD → PrngReg) (c : Dev Cert.KernelIdeal.nD) (A : Args)
    (h : KValue.Launch m A c)
    (x0 : FVec Ideal Cert.ReferenceIdeal.S8x4096x3 .f32) (x1 : FVec Ideal Cert.ReferenceIdeal.S8x1024x3 .f32)
    (x2 : FVec Ideal Cert.ReferenceIdeal.S8x128x4096 .f32) (x3 : FVec Ideal Cert.ReferenceIdeal.S8x256x1024 .f32)
    (x4 : FVec Ideal Cert.ReferenceIdeal.S256x384 .f32) (x5 x6 x7 : FVec Ideal Cert.ReferenceIdeal.S256 .f32)
    (x8 : FVec Ideal Cert.ReferenceIdeal.S128x256 .f32) (x9 x10 x11 : FVec Ideal Cert.ReferenceIdeal.S128 .f32)
    (h' : RefValue.Holds x0 x1 x2 x3 x4 x5 x6 x7 x8 x9 x10 x11 A) :
    Cert.ReferenceIdeal.Read.val_main_v81 (F := Ideal) x0 x1 x2 x3 x4 x5 x6 x7 x8 x9 x10 x11 = kernelResult m ρ c := by
  funext i
  rw [← ix3_eta i]
  exact (RefValue.result h' (i 0) (i 1) (i 2)).trans (KValue.result ρ h (i 0) (i 1) (i 2)).symm

end Cert.Equation

end
-- ==== Proof.lean ====
/-
  The proof of `Cert.Claim` (Defs.lean): the three programs run to the end, leave their arguments as they were and every
  semaphore at zero; the kernel over the extended reals is the kernel itself; and with finite points and scale
  factors the kernel and the reference, over the extended reals, end with the same result.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

set_option maxRecDepth 16384

noncomputable section

namespace Cert.Proof

open Idealize.ShloMosaic Idealize.SL.Sem

/-- The kernel, over bit patterns: it runs to the end, its arguments unchanged, every semaphore at zero. -/
theorem frame_kernel : Cert.quiescent_Kernel := fun m ρ _ => Cert.Kernel.Gen.frame m ρ

/-- The same kernel over the extended reals. -/
theorem frame_kernelIdeal : Cert.quiescent_KernelIdeal := fun m ρ _ => Cert.KernelIdeal.Gen.frame m ρ

/-- The reference over the extended reals. It has host operations only, hence no semaphore at all. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- With finite points and scale factors the kernel and the reference end with the same result, their arguments unchanged. -/
theorem value : Cert.algebraic_KernelIdeal_ReferenceIdeal_pre_finite_points_scales := by
  intro m g m' g' hpre hargs
  refine ⟨fun c => Equation.kernelResult m g c, Cert.KRun.run m g, ?_⟩
  refine (θ_run Cert.ReferenceIdeal.defs _ _).mono (fun r h c => ?_) (Cert.ReferenceIdeal.Value.run (F := Ideal) m' g')
  refine ⟨?_, (h c).2⟩
  obtain ⟨A, hA⟩ := Equation.launch m hpre c
  obtain ⟨e0, e1, e2, e3, e4, e5, e6, e7, e8, e9, e10, e11⟩ := hargs c
  refine (h c).1.trans ((Cert.ReferenceIdeal.Read.val_main_v81_eq (StableHlo.launchContents m' c)).trans ?_)
  refine Equation.results_eq m g c A hA _ _ _ _ _ _ _ _ _ _ _ _ ?_
  exact ⟨⟨fun b n k => (congrFun e0 _).trans (hA.xyz1 b n k), fun b p k => (congrFun e1 _).trans (hA.xyz2 b p k)⟩,
    fun b k n => (congrFun e2 _).trans (hA.feat1 b k n), fun b k p => (congrFun e3 _).trans (hA.feat2 b k p),
    fun o k => (congrFun e4 _).trans (hA.W0 o k), fun o => (congrFun e5 _).trans (hA.b0 o),
    fun o => (congrFun e6 _).trans (hA.g0 o), fun o => (congrFun e7 _).trans (hA.be0 o),
    fun o k => (congrFun e8 _).trans (hA.W1 o k), fun o => (congrFun e9 _).trans (hA.b1 o),
    fun o => (congrFun e10 _).trans (hA.g1 o), fun o => (congrFun e11 _).trans (hA.be1 o)⟩

/-- The claims. -/
theorem claim : Cert.Claim :=
  ⟨Cert.Kernel.Gen.facts, Cert.KernelIdeal.Gen.facts, Cert.ReferenceIdeal.Gen.facts, Cert.Finite.facts,
    frame_kernel, frame_kernelIdeal, fun m ρ _ => frame_kernelIdeal m ρ trivial,
    frame_reference, fun m ρ _ => frame_reference m ρ trivial, trivial, value⟩

end Cert.Proof

end
